-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_v189) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x64x96x96 : Shape := ⟨4, ![2, 64, 96, 96]⟩
abbrev S64x64x3x3 : Shape := ⟨4, ![64, 64, 3, 3]⟩
abbrev S64 : Shape := ⟨1, ![64]⟩
abbrev S32x64x1x1 : Shape := ⟨4, ![32, 64, 1, 1]⟩
abbrev S32 : Shape := ⟨1, ![32]⟩
abbrev S3x3x64x64 : Shape := ⟨4, ![3, 3, 64, 64]⟩
abbrev S9x64x64 : Shape := ⟨3, ![9, 64, 64]⟩
abbrev S32x64 : Shape := ⟨2, ![32, 64]⟩
abbrev S_ : Shape := ⟨0, ![]⟩
abbrev S1x64x96x96 : Shape := ⟨4, ![1, 64, 96, 96]⟩
abbrev S1x0x64x96x96 : Shape := ⟨5, ![1, 0, 64, 96, 96]⟩
abbrev S0x64x96x96 : Shape := ⟨4, ![0, 64, 96, 96]⟩
abbrev S2x1x96x96 : Shape := ⟨4, ![2, 1, 96, 96]⟩
abbrev S2x1x0x96x96 : Shape := ⟨5, ![2, 1, 0, 96, 96]⟩
abbrev S2x0x96x96 : Shape := ⟨4, ![2, 0, 96, 96]⟩
abbrev S2x64x1x96 : Shape := ⟨4, ![2, 64, 1, 96]⟩
abbrev S2x64x1x2x96 : Shape := ⟨5, ![2, 64, 1, 2, 96]⟩
abbrev S2x64x2x96 : Shape := ⟨4, ![2, 64, 2, 96]⟩
abbrev S2x64x100x96 : Shape := ⟨4, ![2, 64, 100, 96]⟩
abbrev S2x64x100x1 : Shape := ⟨4, ![2, 64, 100, 1]⟩
abbrev S2x64x100x1x0 : Shape := ⟨5, ![2, 64, 100, 1, 0]⟩
abbrev S2x64x100x0 : Shape := ⟨4, ![2, 64, 100, 0]⟩
abbrev S64x1 : Shape := ⟨2, ![64, 1]⟩
abbrev S32x1 : Shape := ⟨2, ![32, 1]⟩
abbrev S2x32x192x192 : Shape := ⟨4, ![2, 32, 192, 192]⟩
abbrev S1x64x100x96 : Shape := ⟨4, ![1, 64, 100, 96]⟩
abbrev S1x32x8x192 : Shape := ⟨4, ![1, 32, 8, 192]⟩
abbrev S1x64x8x96 : Shape := ⟨4, ![1, 64, 8, 96]⟩
abbrev S64x8x96 : Shape := ⟨3, ![64, 8, 96]⟩
abbrev S64x6x96 : Shape := ⟨3, ![64, 6, 96]⟩
abbrev S64x6x1x96 : Shape := ⟨4, ![64, 6, 1, 96]⟩
abbrev S64x6x2x96 : Shape := ⟨4, ![64, 6, 2, 96]⟩
abbrev S64x12x96 : Shape := ⟨3, ![64, 12, 96]⟩
abbrev S64x10x96 : Shape := ⟨3, ![64, 10, 96]⟩
abbrev S64x10x1 : Shape := ⟨3, ![64, 10, 1]⟩
abbrev S64x10x95 : Shape := ⟨3, ![64, 10, 95]⟩
abbrev S64x10x96x1 : Shape := ⟨4, ![64, 10, 96, 1]⟩
abbrev S64x10x96x2 : Shape := ⟨4, ![64, 10, 96, 2]⟩
abbrev S64x10x192 : Shape := ⟨3, ![64, 10, 192]⟩
abbrev S1x10x1 : Shape := ⟨3, ![1, 10, 1]⟩
abbrev S64x10x193 : Shape := ⟨3, ![64, 10, 193]⟩
abbrev S64x10x194 : Shape := ⟨3, ![64, 10, 194]⟩
abbrev S64x8x192 : Shape := ⟨3, ![64, 8, 192]⟩
abbrev S64x1536 : Shape := ⟨2, ![64, 1536]⟩
abbrev S1x64x64 : Shape := ⟨3, ![1, 64, 64]⟩
abbrev S64x64 : Shape := ⟨2, ![64, 64]⟩
abbrev S32x1536 : Shape := ⟨2, ![32, 1536]⟩
abbrev S32x8x192 : Shape := ⟨3, ![32, 8, 192]⟩
abbrev S64x192x192 : Shape := ⟨3, ![64, 192, 192]⟩
abbrev S64x32x5x5 : Shape := ⟨4, ![64, 32, 5, 5]⟩
abbrev S64x32x4 : Shape := ⟨3, ![64, 32, 4]⟩
abbrev S1x192x192 : Shape := ⟨3, ![1, 192, 192]⟩
abbrev S1x32x5x5 : Shape := ⟨4, ![1, 32, 5, 5]⟩
abbrev S1x32x4 : Shape := ⟨3, ![1, 32, 4]⟩
abbrev S192x192 : Shape := ⟨2, ![192, 192]⟩
abbrev S2x192 : Shape := ⟨2, ![2, 192]⟩
abbrev S194x192 : Shape := ⟨2, ![194, 192]⟩
abbrev S196x192 : Shape := ⟨2, ![196, 192]⟩
abbrev S196x2 : Shape := ⟨2, ![196, 2]⟩
abbrev S196x194 : Shape := ⟨2, ![196, 194]⟩
abbrev S196x196 : Shape := ⟨2, ![196, 196]⟩
abbrev S1 : Shape := ⟨1, ![1]⟩
abbrev S1x1x1 : Shape := ⟨3, ![1, 1, 1]⟩
abbrev S5x196 : Shape := ⟨2, ![5, 196]⟩
abbrev S196x5 : Shape := ⟨2, ![196, 5]⟩
abbrev S5x5 : Shape := ⟨2, ![5, 5]⟩
abbrev S1x1x5x5 : Shape := ⟨4, ![1, 1, 5, 5]⟩
abbrev S4 : Shape := ⟨1, ![4]⟩
abbrev S1x1x4 : Shape := ⟨3, ![1, 1, 4]⟩
abbrev S2x32x32x5x5 : Shape := ⟨5, ![2, 32, 32, 5, 5]⟩
abbrev S2x32x32x4 : Shape := ⟨4, ![2, 32, 32, 4]⟩

abbrev nBuf : Space → Nat
  | .hbm => 61
  | .vmem => 21
  | .smem => 0
  | _ => 0

abbrev bufTy : (tb : Table) → Fin (tcTables nBuf tb) → BufTy
  | .hbm, ⟨0, _⟩ => ⟨S2x64x96x96, .f32⟩
  | .hbm, ⟨1, _⟩ => ⟨S64x64x3x3, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S32x64x1x1, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S3x3x64x64, .f32⟩
  | .hbm, ⟨13, _⟩ => ⟨S9x64x64, .f32⟩
  | .hbm, ⟨14, _⟩ => ⟨S9x64x64, .bf16⟩
  | .hbm, ⟨15, _⟩ => ⟨S32x64, .f32⟩
  | .hbm, ⟨16, _⟩ => ⟨S32x64, .bf16⟩
  | .hbm, ⟨17, _⟩ => ⟨S_, .i32⟩
  | .hbm, ⟨18, _⟩ => ⟨S1x64x96x96, .f32⟩
  | .hbm, ⟨19, _⟩ => ⟨S1x0x64x96x96, .f32⟩
  | .hbm, ⟨20, _⟩ => ⟨S0x64x96x96, .f32⟩
  | .hbm, ⟨21, _⟩ => ⟨S1x64x96x96, .f32⟩
  | .hbm, ⟨22, _⟩ => ⟨S1x0x64x96x96, .f32⟩
  | .hbm, ⟨23, _⟩ => ⟨S0x64x96x96, .f32⟩
  | .hbm, ⟨24, _⟩ => ⟨S2x64x96x96, .f32⟩
  | .hbm, ⟨25, _⟩ => ⟨S2x1x96x96, .f32⟩
  | .hbm, ⟨26, _⟩ => ⟨S2x1x0x96x96, .f32⟩
  | .hbm, ⟨27, _⟩ => ⟨S2x0x96x96, .f32⟩
  | .hbm, ⟨28, _⟩ => ⟨S2x1x96x96, .f32⟩
  | .hbm, ⟨29, _⟩ => ⟨S2x1x0x96x96, .f32⟩
  | .hbm, ⟨30, _⟩ => ⟨S2x0x96x96, .f32⟩
  | .hbm, ⟨31, _⟩ => ⟨S2x64x96x96, .f32⟩
  | .hbm, ⟨32, _⟩ => ⟨S2x64x1x96, .f32⟩
  | .hbm, ⟨33, _⟩ => ⟨S2x64x1x2x96, .f32⟩
  | .hbm, ⟨34, _⟩ => ⟨S2x64x2x96, .f32⟩
  | .hbm, ⟨35, _⟩ => ⟨S2x64x1x96, .f32⟩
  | .hbm, ⟨36, _⟩ => ⟨S2x64x1x2x96, .f32⟩
  | .hbm, ⟨37, _⟩ => ⟨S2x64x2x96, .f32⟩
  | .hbm, ⟨38, _⟩ => ⟨S2x64x100x96, .f32⟩
  | .hbm, ⟨39, _⟩ => ⟨S2x64x100x1, .f32⟩
  | .hbm, ⟨40, _⟩ => ⟨S2x64x100x1x0, .f32⟩
  | .hbm, ⟨41, _⟩ => ⟨S2x64x100x0, .f32⟩
  | .hbm, ⟨42, _⟩ => ⟨S2x64x100x1, .f32⟩
  | .hbm, ⟨43, _⟩ => ⟨S2x64x100x1x0, .f32⟩
  | .hbm, ⟨44, _⟩ => ⟨S2x64x100x0, .f32⟩
  | .hbm, ⟨45, _⟩ => ⟨S2x64x100x96, .f32⟩
  | .hbm, ⟨46, _⟩ => ⟨S64x1, .f32⟩
  | .hbm, ⟨47, _⟩ => ⟨S64x1, .f32⟩
  | .hbm, ⟨48, _⟩ => ⟨S64x1, .f32⟩
  | .hbm, ⟨49, _⟩ => ⟨S64x1, .f32⟩
  | .hbm, ⟨50, _⟩ => ⟨S64x1, .f32⟩
  | .hbm, ⟨51, _⟩ => ⟨S32x1, .f32⟩
  | .hbm, ⟨52, _⟩ => ⟨S32x1, .f32⟩
  | .hbm, ⟨53, _⟩ => ⟨S32x1, .f32⟩
  | .hbm, ⟨54, _⟩ => ⟨S32x1, .f32⟩
  | .hbm, ⟨55, _⟩ => ⟨S2x32x192x192, .f32⟩
  | .hbm, ⟨56, _⟩ => ⟨S64x192x192, .f32⟩
  | .hbm, ⟨57, _⟩ => ⟨S64x32x5x5, .f32⟩
  | .hbm, ⟨58, _⟩ => ⟨S64x32x4, .i32⟩
  | .hbm, ⟨59, _⟩ => ⟨S2x32x32x5x5, .f32⟩
  | .hbm, ⟨60, _⟩ => ⟨S2x32x32x4, .i32⟩
  | .local _ .vmem, ⟨0, _⟩ => ⟨S1x64x100x96, .f32⟩
  | .local _ .vmem, ⟨1, _⟩ => ⟨S1x64x100x96, .f32⟩
  | .local _ .vmem, ⟨2, _⟩ => ⟨S9x64x64, .bf16⟩
  | .local _ .vmem, ⟨3, _⟩ => ⟨S64x1, .f32⟩
  | .local _ .vmem, ⟨4, _⟩ => ⟨S64x1, .f32⟩
  | .local _ .vmem, ⟨5, _⟩ => ⟨S64x1, .f32⟩
  | .local _ .vmem, ⟨6, _⟩ => ⟨S64x1, .f32⟩
  | .local _ .vmem, ⟨7, _⟩ => ⟨S64x1, .f32⟩
  | .local _ .vmem, ⟨8, _⟩ => ⟨S32x64, .bf16⟩
  | .local _ .vmem, ⟨9, _⟩ => ⟨S32x1, .f32⟩
  | .local _ .vmem, ⟨10, _⟩ => ⟨S32x1, .f32⟩
  | .local _ .vmem, ⟨11, _⟩ => ⟨S32x1, .f32⟩
  | .local _ .vmem, ⟨12, _⟩ => ⟨S32x1, .f32⟩
  | .local _ .vmem, ⟨13, _⟩ => ⟨S1x32x8x192, .f32⟩
  | .local _ .vmem, ⟨14, _⟩ => ⟨S1x32x8x192, .f32⟩
  | .local _ .vmem, ⟨15, _⟩ => ⟨S1x192x192, .f32⟩
  | .local _ .vmem, ⟨16, _⟩ => ⟨S1x192x192, .f32⟩
  | .local _ .vmem, ⟨17, _⟩ => ⟨S1x32x5x5, .f32⟩
  | .local _ .vmem, ⟨18, _⟩ => ⟨S1x32x5x5, .f32⟩
  | .local _ .vmem, ⟨19, _⟩ => ⟨S1x32x4, .i32⟩
  | .local _ .vmem, ⟨20, _⟩ => ⟨S1x32x4, .i32⟩
  | _, _ => ⟨S2x64x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_v15 : Ref sig .tc := ⟨.hbm, 33, rfl⟩
abbrev main_call0_v16 : Ref sig .tc := ⟨.hbm, 34, rfl⟩
abbrev main_call0_v17 : Ref sig .tc := ⟨.hbm, 35, rfl⟩
abbrev main_call0_v18 : Ref sig .tc := ⟨.hbm, 36, rfl⟩
abbrev main_call0_v19 : Ref sig .tc := ⟨.hbm, 37, rfl⟩
abbrev main_call0_v20 : Ref sig .tc := ⟨.hbm, 38, rfl⟩
abbrev main_call0_v21 : Ref sig .tc := ⟨.hbm, 39, rfl⟩
abbrev main_call0_v22 : Ref sig .tc := ⟨.hbm, 40, rfl⟩
abbrev main_call0_v23 : Ref sig .tc := ⟨.hbm, 41, rfl⟩
abbrev main_call0_v24 : Ref sig .tc := ⟨.hbm, 42, rfl⟩
abbrev main_call0_v25 : Ref sig .tc := ⟨.hbm, 43, rfl⟩
abbrev main_call0_v26 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17_0 : Ref sig .tc := ⟨.hbm, 57, rfl⟩
abbrev main_v17_1 : Ref sig .tc := ⟨.hbm, 58, rfl⟩
abbrev main_v18 : Ref sig .tc := ⟨.hbm, 59, rfl⟩
abbrev main_v19 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20

abbrev nD : Nat := 1
abbrev τ : Topo := Topo.v7x

variable {F : FTy → Type} [FloatOps F]

abbrev grid0 : Pipeline.Grid := ⟨2, ![2, 24], ![false, false]⟩

def k0_off1 (i : grid0.Coords) : Fin 4 → Nat :=
  let c0 : Index := 0#32
  let c0_0 : Index := 0#32
  let arg1 : BitVec 32 := BitVec.ofNat 32 (i 1).val
  let c4_i32 : BitVec 32 := 4#32
  let v0 : BitVec 32 := Scalar.muli arg1 c4_i32
  let v1 : Index := Scalar.indexCast v0
  let c0_1 : Index := 0#32
  ![0, 0, v1.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x64x100x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S9x64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x32x8x192 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x192x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x32x5x5 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x32x4 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S2x64x96x96 : Shape := ⟨4, ![2, 64, 96, 96]⟩
abbrev S64x64x3x3 : Shape := ⟨4, ![64, 64, 3, 3]⟩
abbrev S64 : Shape := ⟨1, ![64]⟩
abbrev S32x64x1x1 : Shape := ⟨4, ![32, 64, 1, 1]⟩
abbrev S32 : Shape := ⟨1, ![32]⟩
abbrev S2x64x1x96 : Shape := ⟨4, ![2, 64, 1, 96]⟩
abbrev S2x64x95x96 : Shape := ⟨4, ![2, 64, 95, 96]⟩
abbrev S_ : Shape := ⟨0, ![]⟩
abbrev S2x64x96x1x96 : Shape := ⟨5, ![2, 64, 96, 1, 96]⟩
abbrev S2x64x96x2x96 : Shape := ⟨5, ![2, 64, 96, 2, 96]⟩
abbrev S2x64x192x96 : Shape := ⟨4, ![2, 64, 192, 96]⟩
abbrev S2x64x192x1 : Shape := ⟨4, ![2, 64, 192, 1]⟩
abbrev S2x64x192x95 : Shape := ⟨4, ![2, 64, 192, 95]⟩
abbrev S2x64x192x96x1 : Shape := ⟨5, ![2, 64, 192, 96, 1]⟩
abbrev S2x64x192x96x2 : Shape := ⟨5, ![2, 64, 192, 96, 2]⟩
abbrev S2x64x192x192 : Shape := ⟨4, ![2, 64, 192, 192]⟩
abbrev S2x64x194x194 : Shape := ⟨4, ![2, 64, 194, 194]⟩
abbrev S64x64x1x1 : Shape := ⟨4, ![64, 64, 1, 1]⟩
abbrev S64x64 : Shape := ⟨2, ![64, 64]⟩
abbrev S2x192x192x64 : Shape := ⟨4, ![2, 192, 192, 64]⟩
abbrev S1x64x1x1 : Shape := ⟨4, ![1, 64, 1, 1]⟩
abbrev S32x64 : Shape := ⟨2, ![32, 64]⟩
abbrev S2x192x192x32 : Shape := ⟨4, ![2, 192, 192, 32]⟩
abbrev S2x32x192x192 : Shape := ⟨4, ![2, 32, 192, 192]⟩
abbrev S1x32x1x1 : Shape := ⟨4, ![1, 32, 1, 1]⟩
abbrev S2x32x36864 : Shape := ⟨3, ![2, 32, 36864]⟩
abbrev S2x32x32 : Shape := ⟨3, ![2, 32, 32]⟩
abbrev S2x32x196x196 : Shape := ⟨4, ![2, 32, 196, 196]⟩
abbrev S2x32x38416 : Shape := ⟨3, ![2, 32, 38416]⟩
abbrev S5 : Shape := ⟨1, ![5]⟩
abbrev S5x1 : Shape := ⟨2, ![5, 1]⟩
abbrev S1x5 : Shape := ⟨2, ![1, 5]⟩
abbrev S2x32x32x1x1 : Shape := ⟨5, ![2, 32, 32, 1, 1]⟩
abbrev S1x1x1x5x1 : Shape := ⟨5, ![1, 1, 1, 5, 1]⟩
abbrev S2x32x32x5x1 : Shape := ⟨5, ![2, 32, 32, 5, 1]⟩
abbrev S1x1x1x1x5 : Shape := ⟨5, ![1, 1, 1, 1, 5]⟩
abbrev S2x32x32x1x5 : Shape := ⟨5, ![2, 32, 32, 1, 5]⟩
abbrev S2x32x32x5x5 : Shape := ⟨5, ![2, 32, 32, 5, 5]⟩
abbrev S2x32x800 : Shape := ⟨3, ![2, 32, 800]⟩
abbrev S2x32x800x1 : Shape := ⟨4, ![2, 32, 800, 1]⟩
abbrev S2x32x32x1 : Shape := ⟨4, ![2, 32, 32, 1]⟩
abbrev S2x32x32x4 : Shape := ⟨4, ![2, 32, 32, 4]⟩

abbrev nBuf : Space → Nat
  | .hbm => 269
  | .vmem => 0
  | .smem => 0
  | _ => 0

abbrev hbmTy0_0 (i : Nat) : BufTy := match i % 128 with
  | 0 => ⟨S2x64x96x96, .f32⟩
  | 1 => ⟨S64x64x3x3, .f32⟩
  | 2 => ⟨S64, .f32⟩
  | 3 => ⟨S64, .f32⟩
  | 4 => ⟨S64, .f32⟩
  | 5 => ⟨S64, .f32⟩
  | 6 => ⟨S64, .f32⟩
  | 7 => ⟨S32x64x1x1, .f32⟩
  | 8 => ⟨S32, .f32⟩
  | 9 => ⟨S32, .f32⟩
  | 10 => ⟨S32, .f32⟩
  | 11 => ⟨S32, .f32⟩
  | 12 => ⟨S2x64x1x96, .f32⟩
  | 13 => ⟨S2x64x95x96, .f32⟩
  | 14 => ⟨S2x64x96x96, .f32⟩
  | 15 => ⟨S2x64x95x96, .f32⟩
  | 16 => ⟨S2x64x1x96, .f32⟩
  | 17 => ⟨S2x64x96x96, .f32⟩
  | 18 => ⟨S_, .f32⟩
  | 19 => ⟨S2x64x96x96, .f32⟩
  | 20 => ⟨S2x64x96x96, .f32⟩
  | 21 => ⟨S_, .f32⟩
  | 22 => ⟨S2x64x96x96, .f32⟩
  | 23 => ⟨S2x64x96x96, .f32⟩
  | 24 => ⟨S2x64x96x96, .f32⟩
  | 25 => ⟨S_, .f32⟩
  | 26 => ⟨S2x64x96x96, .f32⟩
  | 27 => ⟨S2x64x96x96, .f32⟩
  | 28 => ⟨S_, .f32⟩
  | 29 => ⟨S2x64x96x96, .f32⟩
  | 30 => ⟨S2x64x96x96, .f32⟩
  | 31 => ⟨S2x64x96x96, .f32⟩
  | 32 => ⟨S2x64x96x1x96, .f32⟩
  | 33 => ⟨S2x64x96x1x96, .f32⟩
  | 34 => ⟨S2x64x96x2x96, .f32⟩
  | 35 => ⟨S2x64x192x96, .f32⟩
  | 36 => ⟨S2x64x192x1, .f32⟩
  | 37 => ⟨S2x64x192x95, .f32⟩
  | 38 => ⟨S2x64x192x96, .f32⟩
  | 39 => ⟨S2x64x192x95, .f32⟩
  | 40 => ⟨S2x64x192x1, .f32⟩
  | 41 => ⟨S2x64x192x96, .f32⟩
  | 42 => ⟨S_, .f32⟩
  | 43 => ⟨S2x64x192x96, .f32⟩
  | 44 => ⟨S2x64x192x96, .f32⟩
  | 45 => ⟨S_, .f32⟩
  | 46 => ⟨S2x64x192x96, .f32⟩
  | 47 => ⟨S2x64x192x96, .f32⟩
  | 48 => ⟨S2x64x192x96, .f32⟩
  | 49 => ⟨S_, .f32⟩
  | 50 => ⟨S2x64x192x96, .f32⟩
  | 51 => ⟨S2x64x192x96, .f32⟩
  | 52 => ⟨S_, .f32⟩
  | 53 => ⟨S2x64x192x96, .f32⟩
  | 54 => ⟨S2x64x192x96, .f32⟩
  | 55 => ⟨S2x64x192x96, .f32⟩
  | 56 => ⟨S2x64x192x96x1, .f32⟩
  | 57 => ⟨S2x64x192x96x1, .f32⟩
  | 58 => ⟨S2x64x192x96x2, .f32⟩
  | 59 => ⟨S2x64x192x192, .f32⟩
  | 60 => ⟨S_, .i32⟩
  | 61 => ⟨S_, .f32⟩
  | 62 => ⟨S2x64x194x194, .f32⟩
  | 63 => ⟨S_, .f32⟩
  | 64 => ⟨S2x64x192x192, .f32⟩
  | 65 => ⟨S64x64x1x1, .f32⟩
  | 66 => ⟨S64x64, .f32⟩
  | 67 => ⟨S2x64x192x192, .f32⟩
  | 68 => ⟨S2x192x192x64, .f32⟩
  | 69 => ⟨S2x64x192x192, .f32⟩
  | 70 => ⟨S2x64x192x192, .f32⟩
  | 71 => ⟨S64x64x1x1, .f32⟩
  | 72 => ⟨S64x64, .f32⟩
  | 73 => ⟨S2x64x192x192, .f32⟩
  | 74 => ⟨S2x192x192x64, .f32⟩
  | 75 => ⟨S2x64x192x192, .f32⟩
  | 76 => ⟨S2x64x192x192, .f32⟩
  | 77 => ⟨S64x64x1x1, .f32⟩
  | 78 => ⟨S64x64, .f32⟩
  | 79 => ⟨S2x64x192x192, .f32⟩
  | 80 => ⟨S2x192x192x64, .f32⟩
  | 81 => ⟨S2x64x192x192, .f32⟩
  | 82 => ⟨S2x64x192x192, .f32⟩
  | 83 => ⟨S64x64x1x1, .f32⟩
  | 84 => ⟨S64x64, .f32⟩
  | 85 => ⟨S2x64x192x192, .f32⟩
  | 86 => ⟨S2x192x192x64, .f32⟩
  | 87 => ⟨S2x64x192x192, .f32⟩
  | 88 => ⟨S2x64x192x192, .f32⟩
  | 89 => ⟨S64x64x1x1, .f32⟩
  | 90 => ⟨S64x64, .f32⟩
  | 91 => ⟨S2x64x192x192, .f32⟩
  | 92 => ⟨S2x192x192x64, .f32⟩
  | 93 => ⟨S2x64x192x192, .f32⟩
  | 94 => ⟨S2x64x192x192, .f32⟩
  | 95 => ⟨S64x64x1x1, .f32⟩
  | 96 => ⟨S64x64, .f32⟩
  | 97 => ⟨S2x64x192x192, .f32⟩
  | 98 => ⟨S2x192x192x64, .f32⟩
  | 99 => ⟨S2x64x192x192, .f32⟩
  | 100 => ⟨S2x64x192x192, .f32⟩
  | 101 => ⟨S64x64x1x1, .f32⟩
  | 102 => ⟨S64x64, .f32⟩
  | 103 => ⟨S2x64x192x192, .f32⟩
  | 104 => ⟨S2x192x192x64, .f32⟩
  | 105 => ⟨S2x64x192x192, .f32⟩
  | 106 => ⟨S2x64x192x192, .f32⟩
  | 107 => ⟨S64x64x1x1, .f32⟩
  | 108 => ⟨S64x64, .f32⟩
  | 109 => ⟨S2x64x192x192, .f32⟩
  | 110 => ⟨S2x192x192x64, .f32⟩
  | 111 => ⟨S2x64x192x192, .f32⟩
  | 112 => ⟨S2x64x192x192, .f32⟩
  | 113 => ⟨S64x64x1x1, .f32⟩
  | 114 => ⟨S64x64, .f32⟩
  | 115 => ⟨S2x64x192x192, .f32⟩
  | 116 => ⟨S2x192x192x64, .f32⟩
  | 117 => ⟨S2x64x192x192, .f32⟩
  | 118 => ⟨S2x64x192x192, .f32⟩
  | 119 => ⟨S1x64x1x1, .f32⟩
  | 120 => ⟨S2x64x192x192, .f32⟩
  | 121 => ⟨S2x64x192x192, .f32⟩
  | 122 => ⟨S1x64x1x1, .f32⟩
  | 123 => ⟨S2x64x192x192, .f32⟩
  | 124 => ⟨S2x64x192x192, .f32⟩
  | 125 => ⟨S1x64x1x1, .f32⟩
  | 126 => ⟨S_, .f32⟩
  | 127 => ⟨S1x64x1x1, .f32⟩
  | _ => ⟨S2x64x96x96, .f32⟩

abbrev hbmTy0_1 (i : Nat) : BufTy := match i % 128 with
  | 0 => ⟨S1x64x1x1, .f32⟩
  | 1 => ⟨S1x64x1x1, .f32⟩
  | 2 => ⟨S2x64x192x192, .f32⟩
  | 3 => ⟨S2x64x192x192, .f32⟩
  | 4 => ⟨S1x64x1x1, .f32⟩
  | 5 => ⟨S2x64x192x192, .f32⟩
  | 6 => ⟨S2x64x192x192, .f32⟩
  | 7 => ⟨S1x64x1x1, .f32⟩
  | 8 => ⟨S2x64x192x192, .f32⟩
  | 9 => ⟨S2x64x192x192, .f32⟩
  | 10 => ⟨S_, .f32⟩
  | 11 => ⟨S2x64x192x192, .f32⟩
  | 12 => ⟨S2x64x192x192, .f32⟩
  | 13 => ⟨S32x64, .f32⟩
  | 14 => ⟨S2x192x192x32, .f32⟩
  | 15 => ⟨S2x32x192x192, .f32⟩
  | 16 => ⟨S1x32x1x1, .f32⟩
  | 17 => ⟨S2x32x192x192, .f32⟩
  | 18 => ⟨S2x32x192x192, .f32⟩
  | 19 => ⟨S1x32x1x1, .f32⟩
  | 20 => ⟨S_, .f32⟩
  | 21 => ⟨S1x32x1x1, .f32⟩
  | 22 => ⟨S1x32x1x1, .f32⟩
  | 23 => ⟨S1x32x1x1, .f32⟩
  | 24 => ⟨S2x32x192x192, .f32⟩
  | 25 => ⟨S2x32x192x192, .f32⟩
  | 26 => ⟨S1x32x1x1, .f32⟩
  | 27 => ⟨S2x32x192x192, .f32⟩
  | 28 => ⟨S2x32x192x192, .f32⟩
  | 29 => ⟨S1x32x1x1, .f32⟩
  | 30 => ⟨S2x32x192x192, .f32⟩
  | 31 => ⟨S2x32x192x192, .f32⟩
  | 32 => ⟨S_, .f32⟩
  | 33 => ⟨S2x32x192x192, .f32⟩
  | 34 => ⟨S2x32x192x192, .i1⟩
  | 35 => ⟨S_, .f32⟩
  | 36 => ⟨S_, .f32⟩
  | 37 => ⟨S2x32x192x192, .f32⟩
  | 38 => ⟨S2x32x192x192, .f32⟩
  | 39 => ⟨S_, .f32⟩
  | 40 => ⟨S_, .f32⟩
  | 41 => ⟨S2x32x192x192, .f32⟩
  | 42 => ⟨S_, .f32⟩
  | 43 => ⟨S_, .f32⟩
  | 44 => ⟨S2x32x192x192, .f32⟩
  | 45 => ⟨S2x32x192x192, .i1⟩
  | 46 => ⟨S2x32x192x192, .f32⟩
  | 47 => ⟨S2x32x192x192, .f32⟩
  | 48 => ⟨S2x32x36864, .f32⟩
  | 49 => ⟨S2x32x32, .f32⟩
  | 50 => ⟨S2x32x32, .i32⟩
  | 51 => ⟨S_, .i32⟩
  | 52 => ⟨S2x32x32, .i32⟩
  | 53 => ⟨S2x32x32, .i32⟩
  | 54 => ⟨S_, .i32⟩
  | 55 => ⟨S2x32x32, .i32⟩
  | 56 => ⟨S2x32x32, .i32⟩
  | 57 => ⟨S_, .i32⟩
  | 58 => ⟨S_, .f32⟩
  | 59 => ⟨S2x32x196x196, .f32⟩
  | 60 => ⟨S2x32x38416, .f32⟩
  | 61 => ⟨S5, .i32⟩
  | 62 => ⟨S5x1, .i32⟩
  | 63 => ⟨S5, .i32⟩
  | 64 => ⟨S1x5, .i32⟩
  | 65 => ⟨S2x32x32x1x1, .i32⟩
  | 66 => ⟨S1x1x1x5x1, .i32⟩
  | 67 => ⟨S2x32x32x5x1, .i32⟩
  | 68 => ⟨S2x32x32x5x1, .i32⟩
  | 69 => ⟨S2x32x32x5x1, .i32⟩
  | 70 => ⟨S_, .i32⟩
  | 71 => ⟨S2x32x32x5x1, .i32⟩
  | 72 => ⟨S2x32x32x5x1, .i32⟩
  | 73 => ⟨S2x32x32x1x1, .i32⟩
  | 74 => ⟨S1x1x1x1x5, .i32⟩
  | 75 => ⟨S2x32x32x1x5, .i32⟩
  | 76 => ⟨S2x32x32x1x5, .i32⟩
  | 77 => ⟨S2x32x32x1x5, .i32⟩
  | 78 => ⟨S2x32x32x5x5, .i32⟩
  | 79 => ⟨S2x32x32x5x5, .i32⟩
  | 80 => ⟨S2x32x32x5x5, .i32⟩
  | 81 => ⟨S2x32x800, .i32⟩
  | 82 => ⟨S_, .i32⟩
  | 83 => ⟨S2x32x800, .i32⟩
  | 84 => ⟨S2x32x800, .i1⟩
  | 85 => ⟨S_, .i32⟩
  | 86 => ⟨S2x32x800, .i32⟩
  | 87 => ⟨S2x32x800, .i32⟩
  | 88 => ⟨S2x32x800, .i32⟩
  | 89 => ⟨S2x32x800x1, .i32⟩
  | 90 => ⟨S2x32x800, .f32⟩
  | 91 => ⟨S2x32x32x5x5, .f32⟩
  | 92 => ⟨S_, .i32⟩
  | 93 => ⟨S2x32x32, .i32⟩
  | 94 => ⟨S2x32x32, .i32⟩
  | 95 => ⟨S_, .i32⟩
  | 96 => ⟨S_, .i32⟩
  | 97 => ⟨S_, .i32⟩
  | 98 => ⟨S2x32x32, .i32⟩
  | 99 => ⟨S2x32x32, .i32⟩
  | 100 => ⟨S_, .i32⟩
  | 101 => ⟨S2x32x32, .i32⟩
  | 102 => ⟨S2x32x32, .i32⟩
  | 103 => ⟨S_, .i32⟩
  | 104 => ⟨S2x32x32, .i32⟩
  | 105 => ⟨S2x32x32, .i32⟩
  | 106 => ⟨S_, .i32⟩
  | 107 => ⟨S_, .i32⟩
  | 108 => ⟨S_, .i32⟩
  | 109 => ⟨S2x32x32, .i32⟩
  | 110 => ⟨S2x32x32, .i32⟩
  | 111 => ⟨S_, .i32⟩
  | 112 => ⟨S2x32x32, .i32⟩
  | 113 => ⟨S2x32x32, .i32⟩
  | 114 => ⟨S_, .i32⟩
  | 115 => ⟨S2x32x32, .i32⟩
  | 116 => ⟨S2x32x32, .i32⟩
  | 117 => ⟨S_, .i32⟩
  | 118 => ⟨S_, .i32⟩
  | 119 => ⟨S_, .i32⟩
  | 120 => ⟨S2x32x32, .i32⟩
  | 121 => ⟨S2x32x32, .i32⟩
  | 122 => ⟨S_, .i32⟩
  | 123 => ⟨S2x32x32, .i32⟩
  | 124 => ⟨S2x32x32, .i32⟩
  | 125 => ⟨S_, .i32⟩
  | 126 => ⟨S2x32x32, .i32⟩
  | 127 => ⟨S2x32x32, .i32⟩
  | _ => ⟨S2x64x96x96, .f32⟩

abbrev hbmTy0_2 (i : Nat) : BufTy := match i % 128 with
  | 0 => ⟨S_, .i32⟩
  | 1 => ⟨S_, .i32⟩
  | 2 => ⟨S_, .i32⟩
  | 3 => ⟨S2x32x32, .i32⟩
  | 4 => ⟨S2x32x32, .i32⟩
  | 5 => ⟨S_, .i32⟩
  | 6 => ⟨S2x32x32, .i32⟩
  | 7 => ⟨S2x32x32, .i32⟩
  | 8 => ⟨S2x32x32x1, .i32⟩
  | 9 => ⟨S2x32x32x1, .i32⟩
  | 10 => ⟨S2x32x32x1, .i32⟩
  | 11 => ⟨S2x32x32x1, .i32⟩
  | 12 => ⟨S2x32x32x4, .i32⟩
  | _ => ⟨S2x64x96x96, .f32⟩

abbrev hbmTy (i : Nat) : BufTy := match i / 128 with
  | 0 => hbmTy0_0 i
  | 1 => hbmTy0_1 i
  | 2 => hbmTy0_2 i
  | _ => ⟨S2x64x96x96, .f32⟩

abbrev bufTy : (tb : Table) → Fin (tcTables nBuf tb) → BufTy
  | .hbm, ⟨i, _⟩ => hbmTy i
  | _, _ => ⟨S2x64x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c : Ref sig .tc := ⟨.hbm, 60, rfl⟩
abbrev main_call0_v0 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_cst_8 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_cst_9 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_cst_10 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_cst_11 : Ref sig .tc := ⟨.hbm, 160, rfl⟩
abbrev main_v134 : Ref sig .tc := ⟨.hbm, 161, rfl⟩
abbrev main_v135 : Ref sig .tc := ⟨.hbm, 162, rfl⟩
abbrev main_cst_12 : Ref sig .tc := ⟨.hbm, 163, rfl⟩
abbrev main_call1_v0 : Ref sig .tc := ⟨.hbm, 164, rfl⟩
abbrev main_call1_v1 : Ref sig .tc := ⟨.hbm, 165, rfl⟩
abbrev main_v136 : Ref sig .tc := ⟨.hbm, 166, rfl⟩
abbrev main_cst_13 : Ref sig .tc := ⟨.hbm, 167, rfl⟩
abbrev main_v137 : Ref sig .tc := ⟨.hbm, 168, rfl⟩
abbrev main_v138 : Ref sig .tc := ⟨.hbm, 169, rfl⟩
abbrev main_cst_14 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_values : Ref sig .tc := ⟨.hbm, 177, rfl⟩
abbrev main_indices : Ref sig .tc := ⟨.hbm, 178, rfl⟩
abbrev main_c_15 : Ref sig .tc := ⟨.hbm, 179, rfl⟩
abbrev main_v145 : Ref sig .tc := ⟨.hbm, 180, rfl⟩
abbrev main_v146 : Ref sig .tc := ⟨.hbm, 181, rfl⟩
abbrev main_c_16 : Ref sig .tc := ⟨.hbm, 182, rfl⟩
abbrev main_v147 : Ref sig .tc := ⟨.hbm, 183, rfl⟩
abbrev main_v148 : Ref sig .tc := ⟨.hbm, 184, rfl⟩
abbrev main_c_17 : Ref sig .tc := ⟨.hbm, 185, rfl⟩
abbrev main_call2_v0 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_c_18 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_call3_c : Ref sig .tc := ⟨.hbm, 210, rfl⟩
abbrev main_call3_v0 : Ref sig .tc := ⟨.hbm, 211, rfl⟩
abbrev main_call3_v1 : Ref sig .tc := ⟨.hbm, 212, rfl⟩
abbrev main_call3_c_0 : Ref sig .tc := ⟨.hbm, 213, rfl⟩
abbrev main_call3_v2 : Ref sig .tc := ⟨.hbm, 214, rfl⟩
abbrev main_call3_v3 : Ref sig .tc := ⟨.hbm, 215, rfl⟩
abbrev main_call3_v4 : Ref sig .tc := ⟨.hbm, 216, rfl⟩
abbrev main_call3_v5 : Ref sig .tc := ⟨.hbm, 217, rfl⟩
abbrev main_v171 : Ref sig .tc := ⟨.hbm, 218, rfl⟩
abbrev main_v172 : Ref sig .tc := ⟨.hbm, 219, rfl⟩
abbrev main_c_19 : Ref sig .tc := ⟨.hbm, 220, rfl⟩
abbrev main_v173 : Ref sig .tc := ⟨.hbm, 221, rfl⟩
abbrev main_v174 : Ref sig .tc := ⟨.hbm, 222, rfl⟩
abbrev main_c_20 : Ref sig .tc := ⟨.hbm, 223, rfl⟩
abbrev main_c_21 : Ref sig .tc := ⟨.hbm, 224, rfl⟩
abbrev main_call4_v0 : Ref sig .tc := ⟨.hbm, 225, rfl⟩
abbrev main_call4_v1 : Ref sig .tc := ⟨.hbm, 226, rfl⟩
abbrev main_call4_v2 : Ref sig .tc := ⟨.hbm, 227, rfl⟩
abbrev main_call4_v3 : Ref sig .tc := ⟨.hbm, 228, rfl⟩
abbrev main_call4_v4 : Ref sig .tc := ⟨.hbm, 229, rfl⟩
abbrev main_v175 : Ref sig .tc := ⟨.hbm, 230, rfl⟩
abbrev main_c_22 : Ref sig .tc := ⟨.hbm, 231, rfl⟩
abbrev main_v176 : Ref sig .tc := ⟨.hbm, 232, rfl⟩
abbrev main_v177 : Ref sig .tc := ⟨.hbm, 233, rfl⟩
abbrev main_c_23 : Ref sig .tc := ⟨.hbm, 234, rfl⟩
abbrev main_c_24 : Ref sig .tc := ⟨.hbm, 235, rfl⟩
abbrev main_call5_v0 : Ref sig .tc := ⟨.hbm, 236, rfl⟩
abbrev main_call5_v1 : Ref sig .tc := ⟨.hbm, 237, rfl⟩
abbrev main_call5_v2 : Ref sig .tc := ⟨.hbm, 238, rfl⟩
abbrev main_call5_v3 : Ref sig .tc := ⟨.hbm, 239, rfl⟩
abbrev main_call5_v4 : Ref sig .tc := ⟨.hbm, 240, rfl⟩
abbrev main_v178 : Ref sig .tc := ⟨.hbm, 241, rfl⟩
abbrev main_c_25 : Ref sig .tc := ⟨.hbm, 242, rfl⟩
abbrev main_v179 : Ref sig .tc := ⟨.hbm, 243, rfl⟩
abbrev main_v180 : Ref sig .tc := ⟨.hbm, 244, rfl⟩
abbrev main_c_26 : Ref sig .tc := ⟨.hbm, 245, rfl⟩
abbrev main_c_27 : Ref sig .tc := ⟨.hbm, 246, rfl⟩
abbrev main_call6_v0 : Ref sig .tc := ⟨.hbm, 247, rfl⟩
abbrev main_call6_v1 : Ref sig .tc := ⟨.hbm, 248, rfl⟩
abbrev main_call6_v2 : Ref sig .tc := ⟨.hbm, 249, rfl⟩
abbrev main_call6_v3 : Ref sig .tc := ⟨.hbm, 250, rfl⟩
abbrev main_call6_v4 : Ref sig .tc := ⟨.hbm, 251, rfl⟩
abbrev main_v181 : Ref sig .tc := ⟨.hbm, 252, rfl⟩
abbrev main_c_28 : Ref sig .tc := ⟨.hbm, 253, rfl⟩
abbrev main_v182 : Ref sig .tc := ⟨.hbm, 254, rfl⟩
abbrev main_v183 : Ref sig .tc := ⟨.hbm, 255, rfl⟩
abbrev main_c_29 : Ref sig .tc := ⟨.hbm, 256, rfl⟩
abbrev main_c_30 : Ref sig .tc := ⟨.hbm, 257, rfl⟩
abbrev main_call7_v0 : Ref sig .tc := ⟨.hbm, 258, rfl⟩
abbrev main_call7_v1 : Ref sig .tc := ⟨.hbm, 259, rfl⟩
abbrev main_call7_v2 : Ref sig .tc := ⟨.hbm, 260, rfl⟩
abbrev main_call7_v3 : Ref sig .tc := ⟨.hbm, 261, rfl⟩
abbrev main_call7_v4 : Ref sig .tc := ⟨.hbm, 262, rfl⟩
abbrev main_v184 : Ref sig .tc := ⟨.hbm, 263, rfl⟩
abbrev main_v185 : Ref sig .tc := ⟨.hbm, 264, rfl⟩
abbrev main_v186 : Ref sig .tc := ⟨.hbm, 265, rfl⟩
abbrev main_v187 : Ref sig .tc := ⟨.hbm, 266, rfl⟩
abbrev main_v188 : Ref sig .tc := ⟨.hbm, 267, rfl⟩
abbrev main_v189 : Ref sig .tc := ⟨.hbm, 268, rfl⟩

abbrev nD : Nat := 1
abbrev τ : Topo := Topo.v7x

variable {F : FTy → Type} [FloatOps F]
-- ==== Proof.NmsProg.lean ====
module

public import proofs.«01_k».proof.Proof.Gen.KernelIdeal.Skeleton
public import Idealize.ShloMosaic.Lib.Tactic

@[expose] public section

set_option synthInstance.maxSize 4096

/-! # The selection kernel's body as a loop

The kernel's body writes its thirty-two selection rounds out one after the other. Here a round is
stated once, as functions of the map it works on, and the body is a recursion over the rounds. -/

noncomputable section

namespace Cert.KernelIdeal.Nms

open Idealize.ShloMosaic Idealize.SL.Sem
open Cert.KernelIdeal Cert.KernelIdeal.Gen

variable {F : FTy → Type} [FloatOps F]

/-- The input block with two rows and two columns of zeros on every side. -/
def padded (x : Vec F S1x192x192 .f32) : FVec F S196x196 .f32 :=
  let z : F .f32 := Scalar.sitofp .f32 0#32
  let a : FVec F S192x192 .f32 := shapeCast S192x192 x shapeCasts_S1x192x192_S192x192
  let b : FVec F S194x192 .f32 := concatenate S194x192 0 [⟨S2x192, broadcast S2x192 z⟩, ⟨S192x192, a⟩] concatenates_S2x192_S192x192_S194x192_d0
  let d : FVec F S196x192 .f32 := concatenate S196x192 0 [⟨S194x192, b⟩, ⟨S2x192, broadcast S2x192 z⟩] concatenates_S194x192_S2x192_S196x192_d0
  let e : FVec F S196x194 .f32 := concatenate S196x194 1 [⟨S196x2, broadcast S196x2 z⟩, ⟨S196x192, d⟩] concatenates_S196x2_S196x192_S196x194_d1
  concatenate S196x196 1 [⟨S196x194, e⟩, ⟨S196x2, broadcast S196x2 z⟩] concatenates_S196x194_S196x2_S196x196_d1

/-- The same border of zeros around a map. -/
def pad2 (a : FVec F S192x192 .f32) : FVec F S196x196 .f32 :=
  let z : F .f32 := Scalar.sitofp .f32 0#32
  let b : FVec F S194x192 .f32 := concatenate S194x192 0 [⟨S2x192, broadcast S2x192 z⟩, ⟨S192x192, a⟩] concatenates_S2x192_S192x192_S194x192_d0
  let d : FVec F S196x192 .f32 := concatenate S196x192 0 [⟨S194x192, b⟩, ⟨S2x192, broadcast S2x192 z⟩] concatenates_S194x192_S2x192_S196x192_d0
  let e : FVec F S196x194 .f32 := concatenate S196x194 1 [⟨S196x2, broadcast S196x2 z⟩, ⟨S196x192, d⟩] concatenates_S196x2_S196x192_S196x194_d1
  concatenate S196x196 1 [⟨S196x194, e⟩, ⟨S196x2, broadcast S196x2 z⟩] concatenates_S196x194_S196x2_S196x196_d1

/-- The five neighbours along a row of a bordered map, added up. -/
def rowSum (p : FVec F S196x196 .f32) : FVec F S196x192 .f32 :=
  addf (addf (addf (addf (extractStridedSlice S196x192 ![0, 0] p slices_S196x196_o0_0_S196x192)
    (extractStridedSlice S196x192 ![0, 1] p slices_S196x196_o0_1_S196x192))
    (extractStridedSlice S196x192 ![0, 2] p slices_S196x196_o0_2_S196x192))
    (extractStridedSlice S196x192 ![0, 3] p slices_S196x196_o0_3_S196x192))
    (extractStridedSlice S196x192 ![0, 4] p slices_S196x196_o0_4_S196x192)

/-- The five neighbours down a column, added up. -/
def colSum (r : FVec F S196x192 .f32) : FVec F S192x192 .f32 :=
  addf (addf (addf (addf (extractStridedSlice S192x192 ![0, 0] r slices_S196x192_o0_0_S192x192)
    (extractStridedSlice S192x192 ![1, 0] r slices_S196x192_o1_0_S192x192))
    (extractStridedSlice S192x192 ![2, 0] r slices_S196x192_o2_0_S192x192))
    (extractStridedSlice S192x192 ![3, 0] r slices_S196x192_o3_0_S192x192))
    (extractStridedSlice S192x192 ![4, 0] r slices_S196x192_o4_0_S192x192)

/-- The greatest of the five neighbours along a row. -/
def rowMax (p : FVec F S196x196 .f32) : FVec F S196x192 .f32 :=
  maximumf (maximumf (maximumf (extractStridedSlice S196x192 ![0, 0] p slices_S196x196_o0_0_S196x192)
    (extractStridedSlice S196x192 ![0, 1] p slices_S196x196_o0_1_S196x192))
    (maximumf (extractStridedSlice S196x192 ![0, 2] p slices_S196x196_o0_2_S196x192)
    (extractStridedSlice S196x192 ![0, 3] p slices_S196x196_o0_3_S196x192)))
    (extractStridedSlice S196x192 ![0, 4] p slices_S196x196_o0_4_S196x192)

/-- The greatest of the five neighbours down a column. -/
def colMax (r : FVec F S196x192 .f32) : FVec F S192x192 .f32 :=
  maximumf (maximumf (maximumf (extractStridedSlice S192x192 ![0, 0] r slices_S196x192_o0_0_S192x192)
    (extractStridedSlice S192x192 ![1, 0] r slices_S196x192_o1_0_S192x192))
    (maximumf (extractStridedSlice S192x192 ![2, 0] r slices_S196x192_o2_0_S192x192)
    (extractStridedSlice S192x192 ![3, 0] r slices_S196x192_o3_0_S192x192)))
    (extractStridedSlice S192x192 ![4, 0] r slices_S196x192_o4_0_S192x192)

/-- The window sums where they are the greatest of their neighbourhood, zero elsewhere. -/
def peaks (x : Vec F S1x192x192 .f32) : FVec F S192x192 .f32 :=
  let s : FVec F S192x192 .f32 := colSum (rowSum (padded x))
  let t : FVec F S192x192 .f32 := colMax (rowMax (pad2 s))
  select (cmpf .oeq s t) s (broadcast S192x192 (Scalar.ofBits .f32 0x00000000#32))

/-- Every place's number, row by row. -/
def places : IVec S192x192 32 :=
  addi (muli (iota .tc S192x192 32 [0] iota_S192x192_d0_w32) (broadcast S192x192 192#32))
    (iota .tc S192x192 32 [1] iota_S192x192_d1_w32)

/-- The greatest entry of a map. -/
def greatest (w : FVec F S192x192 .f32) : F .f32 :=
  extractAt ![0, 0, 0] (shapeCast S1x1x1 (multiReduction .maximumf [1, 2] S1
    (shapeCast S1x192x192 w shapeCasts_S192x192_S1x192x192) 0xFF800000#32 reduces_S1x192x192_S1 (.inl rfl) rfl) shapeCasts_S1_S1x1x1) inpos_S1x1x1_p0_0_0

/-- The first place that holds the greatest entry. -/
def best (w : FVec F S192x192 .f32) : BitVec 32 :=
  extractAt ![0, 0, 0] (shapeCast S1x1x1 (multiReductionI .minsi [1, 2] S1
    (shapeCast S1x192x192 (select (cmpf .oeq w (broadcast S192x192 (greatest w))) places
      (broadcast S192x192 1073741824#32)) shapeCasts_S192x192_S1x192x192) 2147483647#32 reduces_S1x192x192_S1 rfl) shapeCasts_S1_S1x1x1) inpos_S1x1x1_p0_0_0

/-- A place's row: the floor of its number over the width. -/
def rowOf (k : BitVec 32) : BitVec 32 :=
  Scalar.select (Scalar.andi (Scalar.cmpi .ne (Scalar.subi (Scalar.extui (Scalar.cmpi .sgt k 0#32) : BitVec 32) (Scalar.extui (Scalar.cmpi .slt k 0#32)))
      (Scalar.subi (Scalar.extui (Scalar.cmpi .sgt 192#32 0#32)) (Scalar.extui (Scalar.cmpi .slt 192#32 0#32))))
    (Scalar.cmpi .ne (Scalar.remsi k 192#32) 0#32))
    (Scalar.subi (Scalar.divsi k 192#32) 1#32) (Scalar.divsi k 192#32)

/-- A place's column. -/
def colOf (k : BitVec 32) : BitVec 32 := Scalar.subi k (Scalar.muli (rowOf k) 192#32)

/-- Five rows of a bordered map, from a given one on, chosen by a product. -/
def rowPick (r : BitVec 32) : FVec F S5x196 .f32 :=
  sitofp .f32 (extui 32 (cmpi .eq (iota .tc S5x196 32 [1] iota_S5x196_d1_w32)
    (addi (broadcast S5x196 r) (iota .tc S5x196 32 [0] iota_S5x196_d0_w32))) natLt_1_32)

/-- Five columns of a bordered map, from a given one on, chosen by a product. -/
def colPick (c : BitVec 32) : FVec F S196x5 .f32 :=
  sitofp .f32 (extui 32 (cmpi .eq (iota .tc S196x5 32 [0] iota_S196x5_d0_w32)
    (addi (broadcast S196x5 c) (iota .tc S196x5 32 [1] iota_S196x5_d1_w32))) natLt_1_32)

/-- The window of the bordered map around a place. -/
def window (p : FVec F S196x196 .f32) (k : BitVec 32) : FVec F S5x5 .f32 :=
  matmul dot_S5x196_S196x5_S5x5_1_0_0_1_n_n none
    (matmul dot_S5x196_S196x196_S5x196_1_0_0_1_n_n none (rowPick (rowOf k)) p (constant S5x196 .f32 0x00000000#32))
    (colPick (colOf k)) (constant S5x5 .f32 0x00000000#32)

/-- A coordinate kept inside the map. -/
def inside (k : BitVec 32) : BitVec 32 := Scalar.minsi 191#32 (Scalar.maxsi 0#32 k)

/-- The corners of the window around a place. -/
def corners (k : BitVec 32) : IVec S4 32 :=
  concatenate S4 0 [⟨S1, broadcast S1 (inside (Scalar.subi (colOf k) 2#32))⟩, ⟨S1, broadcast S1 (inside (Scalar.subi (rowOf k) 2#32))⟩,
    ⟨S1, broadcast S1 (inside (Scalar.addi (colOf k) 2#32))⟩, ⟨S1, broadcast S1 (inside (Scalar.addi (rowOf k) 2#32))⟩] concatenates_S1_S1_S1_S1_S4_d0

/-- The map with a place taken out: minus one there. -/
def without (w : FVec F S192x192 .f32) (k : BitVec 32) : FVec F S192x192 .f32 :=
  select (cmpi .eq places (broadcast S192x192 k)) (broadcast S192x192 (Scalar.ofBits .f32 0xBF800000#32)) w

/-- What a round stores in the first result. -/
def winRow (p : FVec F S196x196 .f32) (w : FVec F S192x192 .f32) : FVec F S1x1x5x5 .f32 :=
  shapeCast S1x1x5x5 (window p (best w)) shapeCasts_S5x5_S1x1x5x5

/-- What a round stores in the second result. -/
def posRow (w : FVec F S192x192 .f32) : IVec S1x1x4 32 :=
  shapeCast S1x1x4 (corners (best w)) shapeCasts_S4_S1x1x4

/-- The map a round leaves. -/
def rest (w : FVec F S192x192 .f32) : FVec F S192x192 .f32 := without w (best w)

theorem win_inb (n : Nat) (h : n < 32) : ∀ a, (![0, n, 0, 0] : Fin 4 → Nat) a + S1x1x5x5.size a ≤ S1x32x5x5.size a := by
  intro a; fin_cases a <;> simp [Shape.size] <;> omega

theorem pos_inb (n : Nat) (h : n < 32) : ∀ a, (![0, n, 0] : Fin 3 → Nat) a + S1x1x4.size a ≤ S1x32x4.size a := by
  intro a; fin_cases a <;> simp [Shape.size] <;> omega

/-- The rounds from the `n`-th on, `k` of them. -/
def rounds (arg2 : Memref sig .tc .vmem S1x32x5x5 .f32) (arg3 : Memref sig .tc .vmem S1x32x4 .i32) (p : FVec F S196x196 .f32) :
    (k n : Nat) → (h : n + k ≤ 32) → FVec F S192x192 .f32 → Prog (TpuEff nD τ sig (Elt F) Λ₀ .tc) PUnit
  | 0, _, _, _ => pure ⟨⟩
  | k + 1, n, h, w => do
    let _ : Vec F S1x1x5x5 .f32 ← Prog.lift (.load arg2 (Rect.unit (s := S1x32x5x5) ![0, n, 0, 0] S1x1x5x5.size (win_inb n (by omega))).toLoadRect (View.loadsAt_vmem h_S1x1x5x5))
    Prog.lift (.store arg2 (Rect.unit (s := S1x32x5x5) ![0, n, 0, 0] S1x1x5x5.size (win_inb n (by omega))) (winRow p w) Finset.univ (View.stores_vmem_bits_univ h_S1x1x5x5 rfl) (.inl rfl))
    let _ : Vec F S1x1x4 .i32 ← Prog.lift (.load arg3 (Rect.unit (s := S1x32x4) ![0, n, 0] S1x1x4.size (pos_inb n (by omega))).toLoadRect (View.loadsAt_vmem h_S1x1x4))
    Prog.lift (.store arg3 (Rect.unit (s := S1x32x4) ![0, n, 0] S1x1x4.size (pos_inb n (by omega))) (posRow w) Finset.univ (View.stores_vmem_bits_univ h_S1x1x4 rfl) (.inl rfl))
    rounds arg2 arg3 p k (n + 1) (by omega) (rest w)

/-- The body: the block loaded, its peaks found, thirty-two rounds. -/
def prog (arg1 : Memref sig .tc .vmem S1x192x192 .f32) (arg2 : Memref sig .tc .vmem S1x32x5x5 .f32) (arg3 : Memref sig .tc .vmem S1x32x4 .i32) :
    Prog (TpuEff nD τ sig (Elt F) Λ₀ .tc) PUnit := do
  let x : Vec F S1x192x192 .f32 ← Prog.lift (.load arg1 (Rect.unit (s := S1x192x192) ![0, 0, 0] S1x192x192.size inb_S1x192x192_S1x192x192_0_0_0).toLoadRect (View.loadsAt_vmem h_S1x192x192))
  rounds arg2 arg3 (padded x) 32 0 (by omega) (peaks x)

theorem body_eq (i : grid1.Coords) (arg1 : Memref sig .tc .vmem S1x192x192 .f32) (harg1 : arg1.IsWhole) (arg2 : Memref sig .tc .vmem S1x32x5x5 .f32) (harg2 : arg2.IsWhole) (arg3 : Memref sig .tc .vmem S1x32x4 .i32) (harg3 : arg3.IsWhole) :
    cc1__nms_body (F := F) i arg1 harg1 arg2 harg2 arg3 harg3 = prog arg1 arg2 arg3 := by
  sl_kernel_rfl

end Cert.KernelIdeal.Nms
-- ==== Proof.DenseProg.lean ====
module

public import proofs.«01_k».proof.Proof.Gen.KernelIdeal.Points
public import proofs.«01_k».proof.Proof.Gen.KernelIdeal.Launch
public import proofs.«01_k».proof.Proof.Gen.KernelIdeal.Skeleton
public import Idealize.ShloMosaic.Lib.Tactic
public import Idealize.ShloMosaic.Lib.Pipeline.FrameBody
public import Idealize.ShloMosaic.Lib.Writes
public import Idealize.ShloMosaic.Lib.VecWindow

@[expose] public section

set_option synthInstance.maxSize 4096

/-! # What the dense kernel's body leaves

One call of the body reads a slab of the padded map and the weights, and stores one block of rows.
The stored block is stated here as a function of the blocks read, and the body's run from the
blocks held to that block is proved. -/

noncomputable section

namespace Cert.KernelIdeal.Dense

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- One tap's matrix out of the nine. -/
abbrev tap (x1 : Vec F S9x64x64 .bf16) (k : Nat) (h : ∀ a, (![k, 0, 0] : Fin 3 → Nat) a + S1x64x64.size a ≤ S9x64x64.size a) : Vec F S1x64x64 .bf16 :=
  View.ld (Val := Elt F) (e' := .bf16) x1 (Rect.unit (s := S9x64x64) ![k, 0, 0] S1x64x64.size h)

/-- A column of sixty-four, read whole. -/
abbrev col64 (x : Vec F S64x1 .f32) : Vec F S64x1 .f32 :=
  View.ld (Val := Elt F) (e' := .f32) x (Rect.unit (s := S64x1) ![0, 0] S64x1.size inb_S64x1_S64x1_0_0)

/-- A column of thirty-two, read whole. -/
abbrev col32 (x : Vec F S32x1 .f32) : Vec F S32x1 .f32 :=
  View.ld (Val := Elt F) (e' := .f32) x (Rect.unit (s := S32x1) ![0, 0] S32x1.size inb_S32x1_S32x1_0_0)

/-- The first row of the slab, in the map's own rows. -/
abbrev firstRow (i : grid0.Coords) : BitVec 32 := Scalar.subi (Scalar.muli (BitVec.ofNat 32 (i 1).val) 8#32) 1#32

/-- The slab of ten doubled rows. -/
def slab (i : grid0.Coords) (x0 : Vec F S1x64x100x96 .f32) : FVec F S64x10x192 .f32 :=
  k0_pay2 (View.ld (Val := Elt F) (e' := .f32) x0 (Rect.unit (s := S1x64x100x96) (k0_off1 i) S1x64x8x96.size (k0_off1_inb i)))

/-- The three-by-three sum with its bias, over a slab. -/
def conv (v : BitVec 32) (u : FVec F S64x10x192 .f32) (x1 : Vec F S9x64x64 .bf16) (x2 : Vec F S64x1 .f32) : FVec F S64x1536 .f32 :=
  k0_pay9 (k0_pay3 u v)
    (k0_pay4 u v (tap x1 0 inb_S9x64x64_S1x64x64_0_0_0)) (k0_pay5 u v (tap x1 1 inb_S9x64x64_S1x64x64_1_0_0))
    (k0_pay6 u v (tap x1 2 inb_S9x64x64_S1x64x64_2_0_0)) (k0_pay7 u v (tap x1 3 inb_S9x64x64_S1x64x64_3_0_0)) (k0_pay8 u v)
    (tap x1 4 inb_S9x64x64_S1x64x64_4_0_0) (tap x1 5 inb_S9x64x64_S1x64x64_5_0_0) (tap x1 6 inb_S9x64x64_S1x64x64_6_0_0)
    (tap x1 7 inb_S9x64x64_S1x64x64_7_0_0) (tap x1 8 inb_S9x64x64_S1x64x64_8_0_0) (col64 x2)

/-- The block the body stores. -/
def out (i : grid0.Coords) (x0 : Vec F S1x64x100x96 .f32) (x1 : Vec F S9x64x64 .bf16) (x2 x3 x4 x5 x6 : Vec F S64x1 .f32)
    (x7 : Vec F S32x64 .bf16) (x8 x9 x10 x11 : Vec F S32x1 .f32) : Vec F S1x32x8x192 .f32 :=
  k0_pay1 (k0_pay10 (conv (firstRow i) (slab i x0) x1 x2) (col64 x5) (col64 x6) (col64 x3) (col64 x4)
    (View.ld (Val := Elt F) (e' := .bf16) x7 (Rect.unit (s := S32x64) ![0, 0] S32x64.size inb_S32x64_S32x64_0_0))
    (col32 x10) (col32 x11) (col32 x8)) (col32 x9)

/-- The body as one straight line of loads and its store. -/
def prog (i : grid0.Coords) (arg2 : Memref sig .tc .vmem S1x64x100x96 .f32) (arg3 : Memref sig .tc .vmem S9x64x64 .bf16) (arg4 arg5 arg6 arg7 arg8 : Memref sig .tc .vmem S64x1 .f32) (arg9 : Memref sig .tc .vmem S32x64 .bf16) (arg10 arg11 arg12 arg13 : Memref sig .tc .vmem S32x1 .f32) (arg14 : Memref sig .tc .vmem S1x32x8x192 .f32) :
    Prog (TpuEff nD τ sig (Elt F) Λ₀ .tc) PUnit := do
  let w : Vec F S1x64x8x96 .f32 ← Prog.lift (.load arg2 (Rect.unit (s := S1x64x100x96) (k0_off1 i) S1x64x8x96.size (k0_off1_inb i)).toLoadRect (View.loadsAt_vmem h_S1x64x8x96))
  let a0 : Vec F S1x64x64 .bf16 ← Prog.lift (.load arg3 (Rect.unit (s := S9x64x64) ![0, 0, 0] S1x64x64.size inb_S9x64x64_S1x64x64_0_0_0).toLoadRect (View.loadsAt_vmem h_S1x64x64))
  let a1 : Vec F S1x64x64 .bf16 ← Prog.lift (.load arg3 (Rect.unit (s := S9x64x64) ![1, 0, 0] S1x64x64.size inb_S9x64x64_S1x64x64_1_0_0).toLoadRect (View.loadsAt_vmem h_S1x64x64))
  let a2 : Vec F S1x64x64 .bf16 ← Prog.lift (.load arg3 (Rect.unit (s := S9x64x64) ![2, 0, 0] S1x64x64.size inb_S9x64x64_S1x64x64_2_0_0).toLoadRect (View.loadsAt_vmem h_S1x64x64))
  let a3 : Vec F S1x64x64 .bf16 ← Prog.lift (.load arg3 (Rect.unit (s := S9x64x64) ![3, 0, 0] S1x64x64.size inb_S9x64x64_S1x64x64_3_0_0).toLoadRect (View.loadsAt_vmem h_S1x64x64))
  let a4 : Vec F S1x64x64 .bf16 ← Prog.lift (.load arg3 (Rect.unit (s := S9x64x64) ![4, 0, 0] S1x64x64.size inb_S9x64x64_S1x64x64_4_0_0).toLoadRect (View.loadsAt_vmem h_S1x64x64))
  let a5 : Vec F S1x64x64 .bf16 ← Prog.lift (.load arg3 (Rect.unit (s := S9x64x64) ![5, 0, 0] S1x64x64.size inb_S9x64x64_S1x64x64_5_0_0).toLoadRect (View.loadsAt_vmem h_S1x64x64))
  let a6 : Vec F S1x64x64 .bf16 ← Prog.lift (.load arg3 (Rect.unit (s := S9x64x64) ![6, 0, 0] S1x64x64.size inb_S9x64x64_S1x64x64_6_0_0).toLoadRect (View.loadsAt_vmem h_S1x64x64))
  let a7 : Vec F S1x64x64 .bf16 ← Prog.lift (.load arg3 (Rect.unit (s := S9x64x64) ![7, 0, 0] S1x64x64.size inb_S9x64x64_S1x64x64_7_0_0).toLoadRect (View.loadsAt_vmem h_S1x64x64))
  let a8 : Vec F S1x64x64 .bf16 ← Prog.lift (.load arg3 (Rect.unit (s := S9x64x64) ![8, 0, 0] S1x64x64.size inb_S9x64x64_S1x64x64_8_0_0).toLoadRect (View.loadsAt_vmem h_S1x64x64))
  let b2 : Vec F S64x1 .f32 ← Prog.lift (.load arg4 (Rect.unit (s := S64x1) ![0, 0] S64x1.size inb_S64x1_S64x1_0_0).toLoadRect (View.loadsAt_vmem h_S64x1))
  let b5 : Vec F S64x1 .f32 ← Prog.lift (.load arg7 (Rect.unit (s := S64x1) ![0, 0] S64x1.size inb_S64x1_S64x1_0_0).toLoadRect (View.loadsAt_vmem h_S64x1))
  let b6 : Vec F S64x1 .f32 ← Prog.lift (.load arg8 (Rect.unit (s := S64x1) ![0, 0] S64x1.size inb_S64x1_S64x1_0_0).toLoadRect (View.loadsAt_vmem h_S64x1))
  let b3 : Vec F S64x1 .f32 ← Prog.lift (.load arg5 (Rect.unit (s := S64x1) ![0, 0] S64x1.size inb_S64x1_S64x1_0_0).toLoadRect (View.loadsAt_vmem h_S64x1))
  let b4 : Vec F S64x1 .f32 ← Prog.lift (.load arg6 (Rect.unit (s := S64x1) ![0, 0] S64x1.size inb_S64x1_S64x1_0_0).toLoadRect (View.loadsAt_vmem h_S64x1))
  let q : Vec F S32x64 .bf16 ← Prog.lift (.load arg9 (Rect.unit (s := S32x64) ![0, 0] S32x64.size inb_S32x64_S32x64_0_0).toLoadRect (View.loadsAt_vmem h_S32x64))
  let d10 : Vec F S32x1 .f32 ← Prog.lift (.load arg12 (Rect.unit (s := S32x1) ![0, 0] S32x1.size inb_S32x1_S32x1_0_0).toLoadRect (View.loadsAt_vmem h_S32x1))
  let d11 : Vec F S32x1 .f32 ← Prog.lift (.load arg13 (Rect.unit (s := S32x1) ![0, 0] S32x1.size inb_S32x1_S32x1_0_0).toLoadRect (View.loadsAt_vmem h_S32x1))
  let d8 : Vec F S32x1 .f32 ← Prog.lift (.load arg10 (Rect.unit (s := S32x1) ![0, 0] S32x1.size inb_S32x1_S32x1_0_0).toLoadRect (View.loadsAt_vmem h_S32x1))
  let d9 : Vec F S32x1 .f32 ← Prog.lift (.load arg11 (Rect.unit (s := S32x1) ![0, 0] S32x1.size inb_S32x1_S32x1_0_0).toLoadRect (View.loadsAt_vmem h_S32x1))
  let _ : Vec F S1x32x8x192 .f32 ← Prog.lift (.load arg14 (Rect.unit (s := S1x32x8x192) ![0, 0, 0, 0] S1x32x8x192.size inb_S1x32x8x192_S1x32x8x192_0_0_0_0).toLoadRect (View.loadsAt_vmem h_S1x32x8x192))
  Prog.lift (.store arg14 (Rect.unit (s := S1x32x8x192) ![0, 0, 0, 0] S1x32x8x192.size inb_S1x32x8x192_S1x32x8x192_0_0_0_0)
    (k0_pay1 (k0_pay10 (k0_pay9 (k0_pay3 (k0_pay2 w) (firstRow i)) (k0_pay4 (k0_pay2 w) (firstRow i) a0) (k0_pay5 (k0_pay2 w) (firstRow i) a1) (k0_pay6 (k0_pay2 w) (firstRow i) a2) (k0_pay7 (k0_pay2 w) (firstRow i) a3) (k0_pay8 (k0_pay2 w) (firstRow i)) a4 a5 a6 a7 a8 b2) b5 b6 b3 b4 q d10 d11 d8) d9)
    Finset.univ (View.stores_vmem_bits_univ h_S1x32x8x192 rfl) (.inl rfl))

theorem body_eq (i : grid0.Coords) (arg2 : Memref sig .tc .vmem S1x64x100x96 .f32) (harg2 : arg2.IsWhole) (arg3 : Memref sig .tc .vmem S9x64x64 .bf16) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S64x1 .f32) (harg8 : arg8.IsWhole) (arg9 : Memref sig .tc .vmem S32x64 .bf16) (harg9 : arg9.IsWhole) (arg10 : Memref sig .tc .vmem S32x1 .f32) (harg10 : arg10.IsWhole) (arg11 : Memref sig .tc .vmem S32x1 .f32) (harg11 : arg11.IsWhole) (arg12 : Memref sig .tc .vmem S32x1 .f32) (harg12 : arg12.IsWhole) (arg13 : Memref sig .tc .vmem S32x1 .f32) (harg13 : arg13.IsWhole) (arg14 : Memref sig .tc .vmem S1x32x8x192 .f32) (harg14 : arg14.IsWhole) :
    cc0__dense_body (F := F) i arg2 harg2 arg3 harg3 arg4 harg4 arg5 harg5 arg6 harg6 arg7 harg7 arg8 harg8 arg9 harg9 arg10 harg10 arg11 harg11 arg12 harg12 arg13 harg13 arg14 harg14
      = prog i arg2 arg3 arg4 arg5 arg6 arg7 arg8 arg9 arg10 arg11 arg12 arg13 arg14 := by
  sl_kernel_rfl

/-- A memref's elements under a rectangle are among its elements. -/
theorem access_sub {κ : Kind} {sp : Space} {s : Shape} {e : EltTy} (m : Memref sig κ sp s e) (r : Rect s) : (m.access r).set ⊆ m.view.set := by
  rw [View.set_slice]; exact View.setOn_subset_set _ _

set_option maxHeartbeats 1600000 in
/-- The run of one call: the blocks are held before and after, the stored block is `out` of them. -/
theorem wp_prog (c : Dev nD) (i : grid0.Coords) (arg2 : Memref sig .tc .vmem S1x64x100x96 .f32) (arg3 : Memref sig .tc .vmem S9x64x64 .bf16) (arg4 : Memref sig .tc .vmem S64x1 .f32) (arg5 : Memref sig .tc .vmem S64x1 .f32) (arg6 : Memref sig .tc .vmem S64x1 .f32) (arg7 : Memref sig .tc .vmem S64x1 .f32) (arg8 : Memref sig .tc .vmem S64x1 .f32) (arg9 : Memref sig .tc .vmem S32x64 .bf16) (arg10 : Memref sig .tc .vmem S32x1 .f32) (arg11 : Memref sig .tc .vmem S32x1 .f32) (arg12 : Memref sig .tc .vmem S32x1 .f32) (arg13 : Memref sig .tc .vmem S32x1 .f32) (arg14 : Memref sig .tc .vmem S1x32x8x192 .f32)
    (x0 : Vec F S1x64x100x96 .f32) (x1 : Vec F S9x64x64 .bf16) (x2 : Vec F S64x1 .f32) (x3 : Vec F S64x1 .f32) (x4 : Vec F S64x1 .f32) (x5 : Vec F S64x1 .f32) (x6 : Vec F S64x1 .f32) (x7 : Vec F S32x64 .bf16) (x8 : Vec F S32x1 .f32) (x9 : Vec F S32x1 .f32) (x10 : Vec F S32x1 .f32) (x11 : Vec F S32x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (out i x0 x1 x2 x3 x4 x5 x6 x7 x8 x9 x10 x11)) -∗ K ⟨⟩))
      ⊢ wp frame (wpE (defs₀ (F := F)) Variants.none c none) E (prog i arg2 arg3 arg4 arg5 arg6 arg7 arg8 arg9 arg10 arg11 arg12 arg13 arg14) K := by
  unfold owns prog
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d, %fd, %hfd, H12⟩, Hk⟩
  subst hf0; subst hf1; subst hf2; subst hf3; subst hf4; subst hf5; subst hf6; subst hf7; subst hf8; subst hf9; subst hf10; subst hf11
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  · iexists _; isplitr; · ipureintro; rfl
    iexact H11
  iexists _; isplitr
  swap
  · iexact H12
  · ipureintro
    exact View.read_writes_full _ _ _ _ _

end Cert.KernelIdeal.Dense

end
-- ==== Proof.NmsRun.lean ====
module

public import proofs.«01_k».proof.Proof.NmsProg
public import proofs.«01_k».proof.Proof.DenseProg
public import Idealize.ShloMosaic.Lib.Pointwise.Index

@[expose] public section

set_option synthInstance.maxSize 4096

/-! # What the selection kernel's body leaves

The rounds are run by induction: after the first `n` of them, the first `n` rows of both results
hold what the rounds stored. -/

noncomputable section

namespace Cert.KernelIdeal.Nms

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The map after `n` rounds. -/
def stage (w : FVec F S192x192 .f32) : Nat → FVec F S192x192 .f32
  | 0 => w
  | n + 1 => rest (stage w n)

/-- The windows stored: row `n` holds round `n`'s window. -/
def outWin (p : FVec F S196x196 .f32) (w : FVec F S192x192 .f32) : Vec F S1x32x5x5 .f32 :=
  fun y => winRow p (stage w (y 1).val) (ix4 (0 : Fin 1) (0 : Fin 1) (y 2 : Fin 5) (y 3 : Fin 5))

/-- The positions stored: row `n` holds round `n`'s corners. -/
def outPos (w : FVec F S192x192 .f32) : Vec F S1x32x4 .i32 :=
  fun y => posRow (stage w (y 1).val) (ix3 (0 : Fin 1) (0 : Fin 1) (y 2 : Fin 4))

theorem win_row (p : FVec F S196x196 .f32) (w : FVec F S192x192 .f32) (v : View sig .tc .vmem S1x32x5x5 .f32) (f : v.ty.Contents (Elt F)) (n : Nat) (hn : n < 32)
    (hf : ∀ y : S1x32x5x5.Idx, (y 1).val < n → v.read (Elt F) f y = outWin p w y) (y : S1x32x5x5.Idx) (hy : (y 1).val < n + 1) :
    v.read (Elt F) (v.writes (Elt F) f [⟨Rect.unit (s := S1x32x5x5) ![0, n, 0, 0] S1x1x5x5.size (win_inb n hn), winRow p (stage w n)⟩]) y = outWin p w y := by
  by_cases h : (y 1).val = n
  · refine (View.read_writes_cons_unit_of_mem v f (win_inb n hn) (winRow p (stage w n)) [] y (ix4 (0 : Fin 1) (0 : Fin 1) (y 2 : Fin 5) (y 3 : Fin 5)) rfl ?_).trans ?_
    · intro a
      have h0 : (y 0).val = 0 := by have := (y 0).isLt; simp [Shape.size] at this; omega
      fin_cases a
      · simpa using h0
      · simpa using h
      · exact (Nat.zero_add _).symm
      · exact (Nat.zero_add _).symm
    · unfold outWin; rw [h]
  · refine (View.read_writes_cons_unit_of_not_mem v f (win_inb n hn) _ [] y rfl 1 (.inl ?_)).trans (hf y (by omega))
    show (y 1).val < n
    omega

theorem pos_row (w : FVec F S192x192 .f32) (v : View sig .tc .vmem S1x32x4 .i32) (f : v.ty.Contents (Elt F)) (n : Nat) (hn : n < 32)
    (hf : ∀ y : S1x32x4.Idx, (y 1).val < n → v.read (Elt F) f y = outPos w y) (y : S1x32x4.Idx) (hy : (y 1).val < n + 1) :
    v.read (Elt F) (v.writes (Elt F) f [⟨Rect.unit (s := S1x32x4) ![0, n, 0] S1x1x4.size (pos_inb n hn), posRow (stage w n)⟩]) y = outPos w y := by
  by_cases h : (y 1).val = n
  · refine (View.read_writes_cons_unit_of_mem v f (pos_inb n hn) (posRow (stage w n)) [] y (ix3 (0 : Fin 1) (0 : Fin 1) (y 2 : Fin 4)) rfl ?_).trans ?_
    · intro a
      have h0 : (y 0).val = 0 := by have := (y 0).isLt; simp [Shape.size] at this; omega
      fin_cases a
      · simpa using h0
      · simpa using h
      · exact (Nat.zero_add _).symm
    · unfold outPos; rw [h]
  · refine (View.read_writes_cons_unit_of_not_mem v f (pos_inb n hn) _ [] y rfl 1 (.inl ?_)).trans (hf y (by omega))
    show (y 1).val < n
    omega

/-- The rounds from the `n`-th on. -/
theorem wp_rounds (c : Dev nD) (arg2 : Memref sig .tc .vmem S1x32x5x5 .f32) (arg3 : Memref sig .tc .vmem S1x32x4 .i32)
    (p : FVec F S196x196 .f32) (w : FVec F S192x192 .f32) (E : Set ℕ) (K : PUnit → sProp 𝕄) :
    ∀ (k n : Nat) (h : n + k = 32) (g2 : Buf (Elt F) (arg2.view.loc (c : Thread nD τ))) (g3 : Buf (Elt F) (arg3.view.loc (c : Thread nD τ)))
      (h2 : ∀ y : S1x32x5x5.Idx, (y 1).val < n → arg2.view.read (Elt F) g2 y = outWin p w y)
      (h3 : ∀ y : S1x32x4.Idx, (y 1).val < n → arg3.view.read (Elt F) g3 y = outPos w y),
    iprop((arg2.view.loc (c : Thread nD τ) ↦[arg2.view.set]{fullShare} g2) ∗ (arg3.view.loc (c : Thread nD τ) ↦[arg3.view.set]{fullShare} g3)
        ∗ (iprop(owns (c : Thread nD τ) arg2 fullShare (outWin p w) ∗ owns (c : Thread nD τ) arg3 fullShare (outPos w)) -∗ K ⟨⟩))
      ⊢ wp frame (wpE (defs₀ (F := F)) Variants.none c none) E (rounds arg2 arg3 p k n (le_of_eq h) (stage w n)) K := by
  intro k
  induction k with
  | zero =>
    intro n h g2 g3 h2 h3
    unfold rounds owns
    iintro ⟨H2, H3, Hk⟩
    sl_exec
    sl_step
    iapply Hk
    isplitl [H2]
    · iexists _; isplitr
      swap
      · iexact H2
      · ipureintro; exact funext fun y => h2 y (by have := (y 1).isLt; simp [Shape.size] at this; omega)
    · iexists _; isplitr
      swap
      · iexact H3
      · ipureintro; exact funext fun y => h3 y (by have := (y 1).isLt; simp [Shape.size] at this; omega)
  | succ k ih =>
    intro n h g2 g3 h2 h3
    have hn : n < 32 := by omega
    unfold rounds
    iintro ⟨H2, H3, Hk⟩
    have h1 : n + 1 + k = 32 := by omega
    have t2 := win_row p w arg2.view g2 n hn h2
    have t3 := pos_row w arg3.view g3 n hn h3
    clear h2 h3
    sl_exec
    iexact Hrounds_0

/-- The run of one call. -/
theorem wp_prog (c : Dev nD) (arg1 : Memref sig .tc .vmem S1x192x192 .f32) (arg2 : Memref sig .tc .vmem S1x32x5x5 .f32) (arg3 : Memref sig .tc .vmem S1x32x4 .i32)
    (x : Vec F S1x192x192 .f32) (E : Set ℕ) (K : PUnit → sProp 𝕄) :
    iprop(owns (c : Thread nD τ) arg1 fullShare x ∗ (∃ d, owns (c : Thread nD τ) arg2 fullShare d) ∗ (∃ d, owns (c : Thread nD τ) arg3 fullShare d)
        ∗ (iprop(owns (c : Thread nD τ) arg1 fullShare x ∗ owns (c : Thread nD τ) arg2 fullShare (outWin (padded x) (peaks x)) ∗ owns (c : Thread nD τ) arg3 fullShare (outPos (peaks x))) -∗ K ⟨⟩))
      ⊢ wp frame (wpE (defs₀ (F := F)) Variants.none c none) E (prog arg1 arg2 arg3) K := by
  unfold prog
  have e : owns (c : Thread nD τ) arg1 fullShare x = (owns (c : Thread nD τ) arg1 fullShare x : sProp 𝕄) := rfl
  unfold owns
  iintro ⟨⟨%f0, %hf0, H0⟩, ⟨%d1, %f1, %hf1, H1⟩, ⟨%d2, %f2, %hf2, H2⟩, Hk⟩
  subst hf0
  have hx : View.readAt (Elt F) arg1.view (Rect.unit (s := S1x192x192) ![0, 0, 0] S1x192x192.size inb_S1x192x192_S1x192x192_0_0_0).toLoadRect f0 = arg1.view.read (Elt F) f0 :=
    View.readAt_full _ _ _
  have hr := wp_rounds c arg2 arg3 (padded (View.readAt (Elt F) arg1.view (Rect.unit (s := S1x192x192) ![0, 0, 0] S1x192x192.size inb_S1x192x192_S1x192x192_0_0_0).toLoadRect f0))
    (peaks (View.readAt (Elt F) arg1.view (Rect.unit (s := S1x192x192) ![0, 0, 0] S1x192x192.size inb_S1x192x192_S1x192x192_0_0_0).toLoadRect f0)) E K
    32 0 rfl f1 f2 (fun y h => absurd h (Nat.not_lt_zero _)) (fun y h => absurd h (Nat.not_lt_zero _))
  rw [← hx]
  unfold owns at hr
  have hs : stage (peaks (View.readAt (Elt F) arg1.view (Rect.unit (s := S1x192x192) ![0, 0, 0] S1x192x192.size inb_S1x192x192_S1x192x192_0_0_0).toLoadRect f0)) 0 = peaks (View.readAt (Elt F) arg1.view (Rect.unit (s := S1x192x192) ![0, 0, 0] S1x192x192.size inb_S1x192x192_S1x192x192_0_0_0).toLoadRect f0) := rfl
  rw [hs] at hr
  iapply (wp_load Variants.none _ none E (m := arg1) (S := arg1.view.set) (f := f0) (View.setOn_subset_set _ _)) $$ H0
  iintro H0
  iapply hr
  isplitl [H1]; · iexact H1
  isplitl [H2]; · iexact H2
  iintro ⟨G1, G2⟩
  iapply Hk
  isplitl [H0]
  · iexists _; isplitr; · ipureintro; exact hx.symm
    iexact H0
  isplitl [G1]; · iexact G1
  iexact G2

end Cert.KernelIdeal.Nms

end
-- ==== Proof.Regions.lean ====
module

public import proofs.«01_k».proof.Proof.NmsRun
public import Idealize.ShloMosaic.Lib.Pipeline.RegionArraysS
public import Idealize.ShloMosaic.Lib.Pipeline.FrameTail

@[expose] public section

set_option synthInstance.maxSize 4096

/-! # The two pipelined calls' data and body obligations

Each call is stated over an arbitrary valuation of the buffers it is entered with: what every window's
staging buffer holds after the body, and the obligation that the body leaves it. -/

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Valuation τ sig (Elt F))

/-! ## Call 0 -/

/-- A window's block as the call finds it. -/
def blk0 (w : Fin cfg0.W) (t : Fin cfg0.N) : ((cfg0.win w).xblock (cfg0.grid.coords t)).Idx → Elt F (cfg0.win w).elt :=
  ((cfg0.win w).blk t).view.read (Elt F) (V (Proc.devRef .tc (Pipeline.arrRef spec0 w)))

/-- The proof data: arrays as entered, input blocks unchanged, output blocks as the body stores them. -/
def dat0 (c : Dev nD) : Dat τ (Elt F) Unit ℕ (UR sig nD τ) ℕ cfg0 c where
  A w := V (Proc.devRef .tc (Pipeline.arrRef spec0 w))
  after w t := match w with
    | ⟨0, _⟩ => blk0 V 0 t
    | ⟨1, _⟩ => blk0 V 1 t
    | ⟨2, _⟩ => blk0 V 2 t
    | ⟨3, _⟩ => blk0 V 3 t
    | ⟨4, _⟩ => blk0 V 4 t
    | ⟨5, _⟩ => blk0 V 5 t
    | ⟨6, _⟩ => blk0 V 6 t
    | ⟨7, _⟩ => blk0 V 7 t
    | ⟨8, _⟩ => blk0 V 8 t
    | ⟨9, _⟩ => blk0 V 9 t
    | ⟨10, _⟩ => blk0 V 10 t
    | ⟨11, _⟩ => blk0 V 11 t
    | ⟨12, _⟩ => Dense.out (grid0.coords t) (blk0 V 0 t) (blk0 V 1 t) (blk0 V 2 t) (blk0 V 3 t) (blk0 V 4 t) (blk0 V 5 t) (blk0 V 6 t) (blk0 V 7 t) (blk0 V 8 t) (blk0 V 9 t) (blk0 V 10 t) (blk0 V 11 t)
  Φ _ := Pipeline.ΦA spec0 c
  q _ := fullShare
  owed _ := 0

theorem A0_eq (c : Dev nD) (w : Fin cfg0.W) : (dat0 V c).A w = V (Proc.devRef .tc (Pipeline.arrRef spec0 w)) := by dsimp only [dat0]

theorem after0_0 (c : Dev nD) (t : Fin cfg0.N) : (dat0 V c).after 0 t = blk0 V 0 t := rfl
theorem before0_0 (c : Dev nD) (t : Fin cfg0.N) (d) : (dat0 V c).before 0 t d = blk0 V 0 t :=
  ((dat0 V c).before_in_eq_fetched 0 rfl (fun _ => rfl) (fun _ _ _ => rfl) (fun t => by rw [after0_0]; unfold Dat.blockOf blk0; rw [A0_eq]; try rfl) t d).trans
    (by unfold Dat.fetched Dat.blockOf blk0; rw [A0_eq]; try rfl)
theorem after0_1 (c : Dev nD) (t : Fin cfg0.N) : (dat0 V c).after 1 t = blk0 V 1 t := rfl
theorem before0_1 (c : Dev nD) (t : Fin cfg0.N) (d) : (dat0 V c).before 1 t d = blk0 V 1 t :=
  ((dat0 V c).before_in_eq_fetched 1 rfl (fun _ => rfl) (fun _ _ _ => rfl) (fun t => by rw [after0_1]; unfold Dat.blockOf blk0; rw [A0_eq]; try rfl) t d).trans
    (by unfold Dat.fetched Dat.blockOf blk0; rw [A0_eq]; try rfl)
theorem after0_2 (c : Dev nD) (t : Fin cfg0.N) : (dat0 V c).after 2 t = blk0 V 2 t := rfl
theorem before0_2 (c : Dev nD) (t : Fin cfg0.N) (d) : (dat0 V c).before 2 t d = blk0 V 2 t :=
  ((dat0 V c).before_in_eq_fetched 2 rfl (fun _ => rfl) (fun _ _ _ => rfl) (fun t => by rw [after0_2]; unfold Dat.blockOf blk0; rw [A0_eq]; try rfl) t d).trans
    (by unfold Dat.fetched Dat.blockOf blk0; rw [A0_eq]; try rfl)
theorem after0_3 (c : Dev nD) (t : Fin cfg0.N) : (dat0 V c).after 3 t = blk0 V 3 t := rfl
theorem before0_3 (c : Dev nD) (t : Fin cfg0.N) (d) : (dat0 V c).before 3 t d = blk0 V 3 t :=
  ((dat0 V c).before_in_eq_fetched 3 rfl (fun _ => rfl) (fun _ _ _ => rfl) (fun t => by rw [after0_3]; unfold Dat.blockOf blk0; rw [A0_eq]; try rfl) t d).trans
    (by unfold Dat.fetched Dat.blockOf blk0; rw [A0_eq]; try rfl)
theorem after0_4 (c : Dev nD) (t : Fin cfg0.N) : (dat0 V c).after 4 t = blk0 V 4 t := rfl
theorem before0_4 (c : Dev nD) (t : Fin cfg0.N) (d) : (dat0 V c).before 4 t d = blk0 V 4 t :=
  ((dat0 V c).before_in_eq_fetched 4 rfl (fun _ => rfl) (fun _ _ _ => rfl) (fun t => by rw [after0_4]; unfold Dat.blockOf blk0; rw [A0_eq]; try rfl) t d).trans
    (by unfold Dat.fetched Dat.blockOf blk0; rw [A0_eq]; try rfl)
theorem after0_5 (c : Dev nD) (t : Fin cfg0.N) : (dat0 V c).after 5 t = blk0 V 5 t := rfl
theorem before0_5 (c : Dev nD) (t : Fin cfg0.N) (d) : (dat0 V c).before 5 t d = blk0 V 5 t :=
  ((dat0 V c).before_in_eq_fetched 5 rfl (fun _ => rfl) (fun _ _ _ => rfl) (fun t => by rw [after0_5]; unfold Dat.blockOf blk0; rw [A0_eq]; try rfl) t d).trans
    (by unfold Dat.fetched Dat.blockOf blk0; rw [A0_eq]; try rfl)
theorem after0_6 (c : Dev nD) (t : Fin cfg0.N) : (dat0 V c).after 6 t = blk0 V 6 t := rfl
theorem before0_6 (c : Dev nD) (t : Fin cfg0.N) (d) : (dat0 V c).before 6 t d = blk0 V 6 t :=
  ((dat0 V c).before_in_eq_fetched 6 rfl (fun _ => rfl) (fun _ _ _ => rfl) (fun t => by rw [after0_6]; unfold Dat.blockOf blk0; rw [A0_eq]; try rfl) t d).trans
    (by unfold Dat.fetched Dat.blockOf blk0; rw [A0_eq]; try rfl)
theorem after0_7 (c : Dev nD) (t : Fin cfg0.N) : (dat0 V c).after 7 t = blk0 V 7 t := rfl
theorem before0_7 (c : Dev nD) (t : Fin cfg0.N) (d) : (dat0 V c).before 7 t d = blk0 V 7 t :=
  ((dat0 V c).before_in_eq_fetched 7 rfl (fun _ => rfl) (fun _ _ _ => rfl) (fun t => by rw [after0_7]; unfold Dat.blockOf blk0; rw [A0_eq]; try rfl) t d).trans
    (by unfold Dat.fetched Dat.blockOf blk0; rw [A0_eq]; try rfl)
theorem after0_8 (c : Dev nD) (t : Fin cfg0.N) : (dat0 V c).after 8 t = blk0 V 8 t := rfl
theorem before0_8 (c : Dev nD) (t : Fin cfg0.N) (d) : (dat0 V c).before 8 t d = blk0 V 8 t :=
  ((dat0 V c).before_in_eq_fetched 8 rfl (fun _ => rfl) (fun _ _ _ => rfl) (fun t => by rw [after0_8]; unfold Dat.blockOf blk0; rw [A0_eq]; try rfl) t d).trans
    (by unfold Dat.fetched Dat.blockOf blk0; rw [A0_eq]; try rfl)
theorem after0_9 (c : Dev nD) (t : Fin cfg0.N) : (dat0 V c).after 9 t = blk0 V 9 t := rfl
theorem before0_9 (c : Dev nD) (t : Fin cfg0.N) (d) : (dat0 V c).before 9 t d = blk0 V 9 t :=
  ((dat0 V c).before_in_eq_fetched 9 rfl (fun _ => rfl) (fun _ _ _ => rfl) (fun t => by rw [after0_9]; unfold Dat.blockOf blk0; rw [A0_eq]; try rfl) t d).trans
    (by unfold Dat.fetched Dat.blockOf blk0; rw [A0_eq]; try rfl)
theorem after0_10 (c : Dev nD) (t : Fin cfg0.N) : (dat0 V c).after 10 t = blk0 V 10 t := rfl
theorem before0_10 (c : Dev nD) (t : Fin cfg0.N) (d) : (dat0 V c).before 10 t d = blk0 V 10 t :=
  ((dat0 V c).before_in_eq_fetched 10 rfl (fun _ => rfl) (fun _ _ _ => rfl) (fun t => by rw [after0_10]; unfold Dat.blockOf blk0; rw [A0_eq]; try rfl) t d).trans
    (by unfold Dat.fetched Dat.blockOf blk0; rw [A0_eq]; try rfl)
theorem after0_11 (c : Dev nD) (t : Fin cfg0.N) : (dat0 V c).after 11 t = blk0 V 11 t := rfl
theorem before0_11 (c : Dev nD) (t : Fin cfg0.N) (d) : (dat0 V c).before 11 t d = blk0 V 11 t :=
  ((dat0 V c).before_in_eq_fetched 11 rfl (fun _ => rfl) (fun _ _ _ => rfl) (fun t => by rw [after0_11]; unfold Dat.blockOf blk0; rw [A0_eq]; try rfl) t d).trans
    (by unfold Dat.fetched Dat.blockOf blk0; rw [A0_eq]; try rfl)
theorem after0_12 (c : Dev nD) (t : Fin cfg0.N) : (dat0 V c).after 12 t = Dense.out (grid0.coords t) (blk0 V 0 t) (blk0 V 1 t) (blk0 V 2 t) (blk0 V 3 t) (blk0 V 4 t) (blk0 V 5 t) (blk0 V 6 t) (blk0 V 7 t) (blk0 V 8 t) (blk0 V 9 t) (blk0 V 10 t) (blk0 V 11 t) := rfl

theorem row0 (t : Fin cfg0.N) : defs₀ (F := F) .tc cfg0.body (cfg0.bodyArgs t (cfg0.slots t)) = bodyAt0 t := by
  unfold defs₀; rw [Defs.onTc_tc]

theorem sound0 (c : Dev nD) (t : Fin cfg0.N) :
    (iprop((dat0 V c).Φ t.castSucc ∗ (dat0 V c).owesAt () t.castSucc ∗ (∃ d, owns (c : Thread nD τ) (st0_0 t) fullShare ((dat0 V c).before 0 t d)) ∗ (∃ d, owns (c : Thread nD τ) (st0_1 t) fullShare ((dat0 V c).before 1 t d)) ∗ (∃ d, owns (c : Thread nD τ) (st0_2 t) fullShare ((dat0 V c).before 2 t d)) ∗ (∃ d, owns (c : Thread nD τ) (st0_3 t) fullShare ((dat0 V c).before 3 t d)) ∗ (∃ d, owns (c : Thread nD τ) (st0_4 t) fullShare ((dat0 V c).before 4 t d)) ∗ (∃ d, owns (c : Thread nD τ) (st0_5 t) fullShare ((dat0 V c).before 5 t d)) ∗ (∃ d, owns (c : Thread nD τ) (st0_6 t) fullShare ((dat0 V c).before 6 t d)) ∗ (∃ d, owns (c : Thread nD τ) (st0_7 t) fullShare ((dat0 V c).before 7 t d)) ∗ (∃ d, owns (c : Thread nD τ) (st0_8 t) fullShare ((dat0 V c).before 8 t d)) ∗ (∃ d, owns (c : Thread nD τ) (st0_9 t) fullShare ((dat0 V c).before 9 t d)) ∗ (∃ d, owns (c : Thread nD τ) (st0_10 t) fullShare ((dat0 V c).before 10 t d)) ∗ (∃ d, owns (c : Thread nD τ) (st0_11 t) fullShare ((dat0 V c).before 11 t d)) ∗ (∃ d, owns (c : Thread nD τ) (st0_12 t) fullShare ((dat0 V c).before 12 t d))) : sProp 𝕄)
      ⊢ wp frame (wpE (defs₀ (F := F)) Variants.none c none) Set.univ (bodyAt0 t) (fun _ => iprop((dat0 V c).Φ t.succ ∗ (dat0 V c).owesAt () t.succ ∗ owns (c : Thread nD τ) (st0_0 t) fullShare ((dat0 V c).after 0 t) ∗ owns (c : Thread nD τ) (st0_1 t) fullShare ((dat0 V c).after 1 t) ∗ owns (c : Thread nD τ) (st0_2 t) fullShare ((dat0 V c).after 2 t) ∗ owns (c : Thread nD τ) (st0_3 t) fullShare ((dat0 V c).after 3 t) ∗ owns (c : Thread nD τ) (st0_4 t) fullShare ((dat0 V c).after 4 t) ∗ owns (c : Thread nD τ) (st0_5 t) fullShare ((dat0 V c).after 5 t) ∗ owns (c : Thread nD τ) (st0_6 t) fullShare ((dat0 V c).after 6 t) ∗ owns (c : Thread nD τ) (st0_7 t) fullShare ((dat0 V c).after 7 t) ∗ owns (c : Thread nD τ) (st0_8 t) fullShare ((dat0 V c).after 8 t) ∗ owns (c : Thread nD τ) (st0_9 t) fullShare ((dat0 V c).after 9 t) ∗ owns (c : Thread nD τ) (st0_10 t) fullShare ((dat0 V c).after 10 t) ∗ owns (c : Thread nD τ) (st0_11 t) fullShare ((dat0 V c).after 11 t) ∗ owns (c : Thread nD τ) (st0_12 t) fullShare ((dat0 V c).after 12 t))) := by
  unfold bodyAt0
  simp only [before0_0, before0_1, before0_2, before0_3, before0_4, before0_5, before0_6, before0_7, before0_8, before0_9, before0_10, before0_11]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  rw [Dense.body_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (Dense.wp_prog c (grid0.coords t) _ _ _ _ _ _ _ _ _ _ _ _ _ (blk0 V 0 t) (blk0 V 1 t) (blk0 V 2 t) (blk0 V 3 t) (blk0 V 4 t) (blk0 V 5 t) (blk0 V 6 t) (blk0 V 7 t) (blk0 V 8 t) (blk0 V 9 t) (blk0 V 10 t) (blk0 V 11 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem obligation0 (c : Dev nD) : BodyObligation (dat0 V c) (defs₀ (F := F)) Variants.none () Set.univ := fun t => by
  rw [bigSep_W0, bigSep_W0, row0]
  exact triple_restated (sound0 V c t) rfl .rfl fun _ => .rfl

/-! ## Call 1 -/

/-- A window's block as the call finds it. -/
def blk1 (w : Fin cfg1.W) (t : Fin cfg1.N) : ((cfg1.win w).xblock (cfg1.grid.coords t)).Idx → Elt F (cfg1.win w).elt :=
  ((cfg1.win w).blk t).view.read (Elt F) (V (Proc.devRef .tc (Pipeline.arrRef spec1 w)))

/-- The proof data: arrays as entered, input blocks unchanged, output blocks as the body stores them. -/
def dat1 (c : Dev nD) : Dat τ (Elt F) Unit ℕ (UR sig nD τ) ℕ cfg1 c where
  A w := V (Proc.devRef .tc (Pipeline.arrRef spec1 w))
  after w t := match w with
    | ⟨0, _⟩ => blk1 V 0 t
    | ⟨1, _⟩ => Nms.outWin (Nms.padded (blk1 V 0 t)) (Nms.peaks (blk1 V 0 t))
    | ⟨2, _⟩ => Nms.outPos (Nms.peaks (blk1 V 0 t))
  Φ _ := Pipeline.ΦA spec1 c
  q _ := fullShare
  owed _ := 0

theorem A1_eq (c : Dev nD) (w : Fin cfg1.W) : (dat1 V c).A w = V (Proc.devRef .tc (Pipeline.arrRef spec1 w)) := by dsimp only [dat1]

theorem after1_0 (c : Dev nD) (t : Fin cfg1.N) : (dat1 V c).after 0 t = blk1 V 0 t := rfl
theorem before1_0 (c : Dev nD) (t : Fin cfg1.N) (d) : (dat1 V c).before 0 t d = blk1 V 0 t :=
  ((dat1 V c).before_in_eq_fetched 0 rfl (fun _ => rfl) (fun _ _ _ => rfl) (fun t => by rw [after1_0]; unfold Dat.blockOf blk1; rw [A1_eq]; try rfl) t d).trans
    (by unfold Dat.fetched Dat.blockOf blk1; rw [A1_eq]; try rfl)
theorem after1_1 (c : Dev nD) (t : Fin cfg1.N) : (dat1 V c).after 1 t = Nms.outWin (Nms.padded (blk1 V 0 t)) (Nms.peaks (blk1 V 0 t)) := rfl
theorem after1_2 (c : Dev nD) (t : Fin cfg1.N) : (dat1 V c).after 2 t = Nms.outPos (Nms.peaks (blk1 V 0 t)) := rfl

theorem row1 (t : Fin cfg1.N) : defs₀ (F := F) .tc cfg1.body (cfg1.bodyArgs t (cfg1.slots t)) = bodyAt1 t := by
  unfold defs₀; rw [Defs.onTc_tc]

theorem sound1 (c : Dev nD) (t : Fin cfg1.N) :
    (iprop((dat1 V c).Φ t.castSucc ∗ (dat1 V c).owesAt () t.castSucc ∗ (∃ d, owns (c : Thread nD τ) (st1_0 t) fullShare ((dat1 V c).before 0 t d)) ∗ (∃ d, owns (c : Thread nD τ) (st1_1 t) fullShare ((dat1 V c).before 1 t d)) ∗ (∃ d, owns (c : Thread nD τ) (st1_2 t) fullShare ((dat1 V c).before 2 t d))) : sProp 𝕄)
      ⊢ wp frame (wpE (defs₀ (F := F)) Variants.none c none) Set.univ (bodyAt1 t) (fun _ => iprop((dat1 V c).Φ t.succ ∗ (dat1 V c).owesAt () t.succ ∗ owns (c : Thread nD τ) (st1_0 t) fullShare ((dat1 V c).after 0 t) ∗ owns (c : Thread nD τ) (st1_1 t) fullShare ((dat1 V c).after 1 t) ∗ owns (c : Thread nD τ) (st1_2 t) fullShare ((dat1 V c).after 2 t))) := by
  unfold bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  rw [Nms.body_eq]
  iintro ⟨HΦ, Ho, ⟨%d0, H0⟩, ⟨%d1, H1⟩, ⟨%d2, H2⟩⟩
  iapply (Nms.wp_prog c _ _ _ (blk1 V 0 t) Set.univ _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem obligation1 (c : Dev nD) : BodyObligation (dat1 V c) (defs₀ (F := F)) Variants.none () Set.univ := fun t => by
  rw [bigSep_W1, bigSep_W1, row1]
  exact triple_restated (sound1 V c t) rfl .rfl fun _ => .rfl

end Cert.KernelIdeal.Run

end
-- ==== Proof.Launched.lean ====
module

public import proofs.«01_k».proof.Proof.Regions

@[expose] public section

set_option synthInstance.maxSize 4096

/-! # The whole program's run

The host stretches and the two calls in order, over the buffers outside the calls' scopes: from the
launch memory to the valuation after the last stretch. -/

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf afterRegion)
open Cert.KernelIdeal Cert.KernelIdeal.Gen

variable {F : FTy → Type} [FloatOps F]

local notation "𝕄" => MT nD τ sig Unit (Elt F) ℕ (UR sig nD τ) ℕ

/-- The pipelines' algebra is the whole of the program's. -/
abbrev EP : Emb (UR sig nD τ) (MT nD τ sig Unit (Elt F) ℕ (UR sig nD τ) ℕ) := emb₁

variable (m : (ℓ : Loc nD τ sig) → Buf (Elt F) ℓ) (ρ : Dev nD → PrngReg)

/-! ## The valuations between the stretches -/

/-- The buffers at launch. -/
abbrev V0 (c : Dev nD) : Valuation τ sig (Elt F) := fun b => m (c, b)
/-- After the host stretches before the first call. -/
def V1 (c : Dev nD) : Valuation τ sig (Elt F) := StableHlo.after hostOps0 (V0 m c)
def V2 (c : Dev nD) : Valuation τ sig (Elt F) := StableHlo.after hostOps0_1 (V1 m c)
def V3 (c : Dev nD) : Valuation τ sig (Elt F) := StableHlo.after hostOps0_2 (V2 m c)
/-- After the first call. -/
def V4 (c : Dev nD) : Valuation τ sig (Elt F) := afterRegion (dat0 (V3 m c) c) (V3 m c)
/-- Before the second call. -/
def V5 (c : Dev nD) : Valuation τ sig (Elt F) := StableHlo.after hostOps1 (V4 m c)
/-- After the second call. -/
def V6 (c : Dev nD) : Valuation τ sig (Elt F) := afterRegion (dat1 (V5 m c) c) (V5 m c)
/-- At the end. -/
def V7 (c : Dev nD) : Valuation τ sig (Elt F) := StableHlo.after hostOps2 (V6 m c)

/-- Both calls' proof data. -/
def dats (p : Fin 2) (c : Dev nD) : Dat τ (Elt F) Unit ℕ (UR sig nD τ) ℕ (cfgs p) c :=
  match p with
  | ⟨0, _⟩ => dat0 (V3 m c) c
  | ⟨1, _⟩ => dat1 (V5 m c) c

/-- Every TensorCore cell may be waited on; no core owes another anything. -/
abbrev L : GSem nD τ sig → Finset Unit := fun g => if g.1.2 = .tc then {()} else ∅
abbrev lv : GSem nD τ sig → Unit → ℕ := fun _ _ => 0
abbrev adm : (p : Fin 2) → (pcfgs (F := F) p).Adm := fun p => (cfgs p).toPCfg_adm

/-- What rides beside the buffers. -/
abbrev R (c : Dev nD) : sProp 𝕄 :=
  iprop((∃ W, owes (c : Thread nD τ) (0 : CellTallies nD τ sig Unit) W) ∗ (∃ r, prngReg c r) ∗ emp)

theorem levelCut (p : Fin 2) : Pipeline.LevelCut (pcfgs (F := F)) adm () L lv p (fun _ : Dev nD => 0) (fun _ => 0) where
  hι c w s := by simp [L]
  hιb c w s := le_rfl
  hD c g i h := absurd h (lt_irrefl _)

theorem op_sub (op : HloOp τ sig (Elt F)) (h : op.bufs ⊆ StableHlo.tcRefs τ sig) : op.bufs ⊆ Pipeline.ucRefs τ sig := fun b hb =>
  Finset.mem_filter.mpr ⟨h hb, fun h' => Bool.false_ne_true ((op.no_scoped b hb).symm.trans h')⟩

/-- A host stretch as a segment. -/
abbrev host (ops : List (HloOp τ sig (Elt F))) (hs : ops.Forall fun op => op.bufs ⊆ StableHlo.tcRefs τ sig) (hi : ∀ op ∈ ops, op.fresh = ∅)
    (W : Dev nD → Valuation τ sig (Elt F)) : Pipeline.HostSeg (Name := ℕ) (U := UR sig nD τ) (pcfgs (F := F)) defs₀ Variants.none L lv :=
  Pipeline.HostSeg.ofOps _ _ _ _ _ (Pipeline.ucRefs τ sig) ops (fun op h => op_sub op ((List.forall_iff_forall_mem.mp hs) op h)) hi W R

/-! ## The segments -/

section segments
set_option backward.isDefEq.respectTransparency.types false

/-- The first call as a region entered at `V3`. -/
def reg0 : Pipeline.RegionSeg (pcfgs (F := F)) adm (dats m) () defs₀ Variants.none L lv 0 :=
  Pipeline.RegionSeg.ofHeldIn (pcfgs (F := F)) adm (dats m) () defs₀ Variants.none L lv 0 (fun _ => 0) (Pipeline.ucRefs τ sig)
    (fun c => iprop(∃ r, prngReg c r)) (fun c => iprop(∃ r, prngReg c r)) launch0.toP rfl (fun c => (obligation0 (V3 m c) c).loose)
    (fun _ _ => rfl) (fun _ => rfl) (fun c => (dats m 0 c).share_full fun _ => rfl) (fun _ => .rfl) (fun _ => .rfl) (fun _ => 0)
    (levelCut 0) (fun _ => iprop(emp)) (V3 m) (fun _ _ => rfl)

/-- The second, entered at `V5`. -/
def reg1 : Pipeline.RegionSeg (pcfgs (F := F)) adm (dats m) () defs₀ Variants.none L lv 1 :=
  Pipeline.RegionSeg.ofHeldIn (pcfgs (F := F)) adm (dats m) () defs₀ Variants.none L lv 1 (fun _ => 0) (Pipeline.ucRefs τ sig)
    (fun c => iprop(∃ r, prngReg c r)) (fun c => iprop(∃ r, prngReg c r)) launch1.toP rfl (fun c => (obligation1 (V5 m c) c).loose)
    (fun _ _ => rfl) (fun _ => rfl) (fun c => (dats m 1 c).share_full fun _ => rfl) (fun _ => .rfl) (fun _ => .rfl) (fun _ => 0)
    (levelCut 1) (fun _ => iprop(emp)) (V5 m) (fun _ _ => rfl)

end segments

theorem fresh0 : ∀ op ∈ (hostOps0 : List (HloOp τ sig (Elt F))), op.fresh = ∅ := by
  intro _ h; (repeat (cases h with | head => rfl | tail _ h => ?_)); exact nomatch h
theorem fresh0_1 : ∀ op ∈ (hostOps0_1 : List (HloOp τ sig (Elt F))), op.fresh = ∅ := by
  intro _ h; (repeat (cases h with | head => rfl | tail _ h => ?_)); exact nomatch h
theorem fresh0_2 : ∀ op ∈ (hostOps0_2 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h
theorem fresh2 : ∀ op ∈ (hostOps2 : List (HloOp τ sig (Elt F))), op.fresh = ∅ := by
  intro _ h; (repeat (cases h with | head => rfl | tail _ h => ?_)); exact nomatch h

/-- The program in order. -/
abbrev segs : List (Pipeline.Seg (pcfgs (F := F)) adm (dats m) () defs₀ Variants.none L lv) :=
  [.host (host hostOps0 hostOps0_sub fresh0 (V0 m)), .host (host hostOps0_1 hostOps0_1_sub fresh0_1 (V1 m)),
    .host (host hostOps0_2 hostOps0_2_sub fresh0_2 (V2 m)), .region (reg0 m), .host (host hostOps1 hostOps1_sub fresh1 (V4 m)),
    .region (reg1 m), .host (host hostOps2 hostOps2_sub fresh2 (V6 m))]

theorem main_segs (c : Dev nD) : main (F := F) c = Pipeline.Seg.run (segs m) := (main_chain c).trans (by sl_kernel_rfl)

section links
set_option backward.isDefEq.respectTransparency.types false

theorem arrs0 : Pipeline.arrRefs (pcfgs (F := F) 0).spec ⊆ Pipeline.ucRefs τ sig := Pipeline.arrRefs_sub_ucRefs spec0 (by decide)
theorem arrs1 : Pipeline.arrRefs (pcfgs (F := F) 1).spec ⊆ Pipeline.ucRefs τ sig := Pipeline.arrRefs_sub_ucRefs spec1 (by decide)

theorem link0 (c : Dev nD) : iprop(StableHlo.held (c : Thread nD τ) (Pipeline.ucRefs τ sig) (V3 m c) ∗ R c) ⊢ (reg0 m).pre c := by
  unfold reg0
  exact Pipeline.RegionSeg.ofHeldIn_pre (pcs := pcfgs (F := F)) (a := adm) (pdats := dats m) (ι := ()) (defs₀ := defs₀) (𝒱₀ := Variants.none) (L := L) (lv := lv)
    (p := 0) (D := fun _ => 0) (S := Pipeline.ucRefs τ sig) (X := fun c => iprop(∃ r, prngReg c r)) (Y := fun c => iprop(∃ r, prngReg c r))
    (R := fun _ => iprop(emp)) (W := V3 m) arrs0 c
theorem link0' (c : Dev nD) : (reg0 m).post c ⊢ iprop(StableHlo.held (c : Thread nD τ) (Pipeline.ucRefs τ sig) (V4 m c) ∗ R c) := by
  unfold reg0
  exact Pipeline.RegionSeg.ofHeldIn_post (pcs := pcfgs (F := F)) (a := adm) (pdats := dats m) (ι := ()) (defs₀ := defs₀) (𝒱₀ := Variants.none) (L := L) (lv := lv)
    (p := 0) (D := fun _ => 0) (S := Pipeline.ucRefs τ sig) (X := fun c => iprop(∃ r, prngReg c r)) (Y := fun c => iprop(∃ r, prngReg c r))
    (R := fun _ => iprop(emp)) (W := V3 m) arrs0 c
theorem link1 (c : Dev nD) : iprop(StableHlo.held (c : Thread nD τ) (Pipeline.ucRefs τ sig) (V5 m c) ∗ R c) ⊢ (reg1 m).pre c := by
  unfold reg1
  exact Pipeline.RegionSeg.ofHeldIn_pre (pcs := pcfgs (F := F)) (a := adm) (pdats := dats m) (ι := ()) (defs₀ := defs₀) (𝒱₀ := Variants.none) (L := L) (lv := lv)
    (p := 1) (D := fun _ => 0) (S := Pipeline.ucRefs τ sig) (X := fun c => iprop(∃ r, prngReg c r)) (Y := fun c => iprop(∃ r, prngReg c r))
    (R := fun _ => iprop(emp)) (W := V5 m) arrs1 c
theorem link1' (c : Dev nD) : (reg1 m).post c ⊢ iprop(StableHlo.held (c : Thread nD τ) (Pipeline.ucRefs τ sig) (V6 m c) ∗ R c) := by
  unfold reg1
  exact Pipeline.RegionSeg.ofHeldIn_post (pcs := pcfgs (F := F)) (a := adm) (pdats := dats m) (ι := ()) (defs₀ := defs₀) (𝒱₀ := Variants.none) (L := L) (lv := lv)
    (p := 1) (D := fun _ => 0) (S := Pipeline.ucRefs τ sig) (X := fun c => iprop(∃ r, prngReg c r)) (Y := fun c => iprop(∃ r, prngReg c r))
    (R := fun _ => iprop(emp)) (W := V5 m) arrs1 c

end links

/-- Each part starts from what the one before leaves. -/
theorem links : Pipeline.Seg.Chains (fun c => iprop(StableHlo.held (c : Thread nD τ) (Pipeline.ucRefs τ sig) (V0 m c) ∗ R c)) (segs m)
    (fun c => iprop((StableHlo.held (c : Thread nD τ) (Pipeline.ucRefs τ sig) (V7 m c) ∗ (∃ r, prngReg c r))
      ∗ ∃ W, owes (c : Thread nD τ) (0 : CellTallies nD τ sig Unit) W)) := by
  refine ⟨fun _ => .rfl, fun _ => .rfl, fun _ => .rfl, fun c => ?_, fun c => ?_, fun c => ?_, fun c => ?_, fun c => ?_⟩
  · exact link0 m c
  · exact link0' m c
  · exact link1 m c
  · exact link1' m c
  · refine (show iprop(StableHlo.held (c : Thread nD τ) (Pipeline.ucRefs τ sig) (V7 m c) ∗ R c) ⊢ _ from ?_)
    iintro ⟨Hh, HO, Hp, -⟩
    isplitl [Hh Hp]
    · isplitl [Hh]
      · iexact Hh
      iexact Hp
    iexact HO

set_option backward.isDefEq.respectTransparency.types false in
/-- Every weakly fair execution terminates with every buffer outside the calls' scopes at the last valuation and no
    count left on any semaphore. -/
theorem run_main : θ_run defs (onTc (τ := τ) (main (F := F))) ⟨m, fun _ => 0, ρ⟩
    (fun r => (∀ c : Dev nD, ∀ b ∈ Pipeline.ucRefs τ sig, r.2.mem (c, b) = V7 m c b) ∧ r.2.sem = fun _ => 0) :=
  Pipeline.θ_run_regions_kit_sems (pcfgs (F := F)) adm (dats m) () cellOf_inj EP defs₀ Variants.none L lv m ρ main (segs m)
    (fun c Q => by rw [main_segs m c])
    (by simp only [segs, Pipeline.Seg.pipes_host, Pipeline.Seg.pipes_region, Pipeline.Seg.pipes_nil]; decide)
    (O₀ := 0) (hL := fun g h => if_neg h) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (EP (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V7 m c) ∗ (∃ r, prngReg c r)))
    (hch := links m)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]
      · iexact Hh
      isplitl [HO]
      · iexists ∅
        iexact HO
      isplitl [Hp]
      · iexists _
        iexact Hp
      iempintro)
    (QY := fun c s => ∀ b ∈ Pipeline.ucRefs τ sig, s.mem (c, b) = V7 m c b)
    (hfin := fun c s' => by
      iintro ⟨⟨Hh, -⟩, HSI⟩
      unfold StableHlo.held
      imodintro
      iapply (pointsTo_read_all (Pipeline.ucRefs τ sig) (fun b => (((c : Thread nD τ)).1, b)) (V7 m c) s')
      isplitl [Hh] <;> iassumption)
    (hQ := fun _ h hz => ⟨h, funext fun g => hz g (.inr (by revert g; decide))⟩)

end Cert.KernelIdeal.Run

end
-- ==== Proof.Ended.lean ====
module

public import proofs.«01_k».proof.Proof.Launched

@[expose] public section

set_option maxRecDepth 16384
set_option synthInstance.maxSize 4096

/-! # What the run leaves in the arguments and the results -/

noncomputable section

namespace Cert.KernelIdeal.Run

open Idealize.ShloMosaic Idealize.ShloMosaic.TcCoe Idealize.ShloMosaic.Tactic
open Idealize.SL Idealize.SL.RA Idealize.SL.BI Idealize.SL.Sem
open Idealize.ShloMosaic.Pipeline (Dat Cfg Window BodyObligation cellOf afterRegion)
open Cert.KernelIdeal Cert.KernelIdeal.Gen

variable {F : FTy → Type} [FloatOps F]
variable (m : (ℓ : Loc nD τ sig) → Buf (Elt F) ℓ) (ρ : Dev nD → PrngReg)

/-- The arguments' buffers. -/
abbrev args : List (Ref sig .tc) :=
  [main_arg0, main_arg1, main_arg2, main_arg3, main_arg4, main_arg5, main_arg6, main_arg7, main_arg8, main_arg9, main_arg10, main_arg11]

theorem not_args (op : HloOp τ sig (Elt F)) (y : Ref sig .tc) (hw : op.writes = {Proc.devRef .tc y}) (hy : y ∉ args) :
    ∀ b ∈ args, Proc.devRef .tc b ∉ op.writes := fun b hb h => by
  rw [hw, Finset.mem_singleton] at h
  exact StableHlo.devRef_ne_of_ne (fun e : b = y => hy (e ▸ hb)) h

/-! No host operation writes an argument. -/

theorem kept0 : ∀ op ∈ (hostOps0 : List (HloOp τ sig (Elt F))), ∀ b ∈ args, Proc.devRef .tc b ∉ op.writes := by
  intro _ h; (repeat (cases h with | head => exact not_args _ _ rfl (by decide) | tail _ h => ?_)); exact nomatch h
theorem kept0_1 : ∀ op ∈ (hostOps0_1 : List (HloOp τ sig (Elt F))), ∀ b ∈ args, Proc.devRef .tc b ∉ op.writes := by
  intro _ h; (repeat (cases h with | head => exact not_args _ _ rfl (by decide) | tail _ h => ?_)); exact nomatch h
theorem kept0_2 : ∀ op ∈ (hostOps0_2 : List (HloOp τ sig (Elt F))), ∀ b ∈ args, Proc.devRef .tc b ∉ op.writes := by
  intro _ h; (repeat (cases h with | head => exact not_args _ _ rfl (by decide) | tail _ h => ?_)); exact nomatch h
theorem kept1 : ∀ op ∈ (hostOps1 : List (HloOp τ sig (Elt F))), ∀ b ∈ args, Proc.devRef .tc b ∉ op.writes := by
  intro _ h; (repeat (cases h with | head => exact not_args _ _ rfl (by decide) | tail _ h => ?_)); exact nomatch h
theorem kept2 : ∀ op ∈ (hostOps2 : List (HloOp τ sig (Elt F))), ∀ b ∈ args, Proc.devRef .tc b ∉ op.writes := by
  intro _ h; (repeat (cases h with | head => exact not_args _ _ rfl (by decide) | tail _ h => ?_)); exact nomatch h

/-- Nor does either call, so every argument ends as launched. -/
theorem args_kept (c : Dev nD) (b : Ref sig .tc) (hb : b ∈ args) : V7 m c (Proc.devRef .tc b) = m (c, Proc.devRef .tc b) := by
  unfold V7
  rw [StableHlo.after_of_forall_not_mem _ _ fun op h => kept2 op h b hb]
  unfold V6
  rw [Pipeline.afterRegion_keeps _ _ launch1.win.arr_inj (fun _ => rfl) b ((by decide : ∀ b ∈ args, ∀ w, Pipeline.arrRef spec1 w = b → (cfg1.win w).isOut = false) b hb)]
  unfold V5
  rw [StableHlo.after_of_forall_not_mem _ _ fun op h => kept1 op h b hb]
  unfold V4
  rw [Pipeline.afterRegion_keeps _ _ launch0.win.arr_inj (fun _ => rfl) b ((by decide : ∀ b ∈ args, ∀ w, Pipeline.arrRef spec0 w = b → (cfg0.win w).isOut = false) b hb)]
  unfold V3
  rw [StableHlo.after_of_forall_not_mem _ _ fun op h => kept0_2 op h b hb]
  unfold V2
  rw [StableHlo.after_of_forall_not_mem _ _ fun op h => kept0_1 op h b hb]
  unfold V1
  rw [StableHlo.after_of_forall_not_mem _ _ fun op h => kept0 op h b hb]

/-- The run with the arguments unchanged, beside a reading of the two results. -/
theorem run_ends : θ_run defs (onTc (τ := τ) (main (F := F))) ⟨m, fun _ => 0, ρ⟩
    (fun r => (∀ c : Dev nD, (r.2.mem (c, Proc.devRef .tc main_v18) = V7 m c (Proc.devRef .tc main_v18)
        ∧ r.2.mem (c, Proc.devRef .tc main_v19) = V7 m c (Proc.devRef .tc main_v19))
      ∧ ∀ b ∈ args, r.2.mem (c, Proc.devRef .tc b) = m (c, Proc.devRef .tc b)) ∧ r.2.sem = fun _ => 0) := by
  have uc : ∀ b : Ref sig .tc, b.isScoped = false → Proc.devRef .tc b ∈ Pipeline.ucRefs τ sig := fun b hb =>
    Finset.mem_filter.mpr ⟨StableHlo.devRef_mem_tcRefs _, fun h' => Bool.false_ne_true (hb.symm.trans h')⟩
  refine (θ_run defs _ _).mono (fun r hr => ⟨fun c => ⟨⟨?_, ?_⟩, fun b hb => ?_⟩, hr.2⟩) (run_main m ρ)
  · exact hr.1 c _ (uc _ rfl)
  · exact hr.1 c _ (uc _ rfl)
  · exact (hr.1 c _ (uc b ((by decide : ∀ b ∈ args, b.isScoped = false) b hb))).trans (args_kept m c b hb)

end Cert.KernelIdeal.Run

end
-- ==== Proof.RefFrame.lean ====
module

public import proofs.«01_k».proof.Defs
public import proofs.«01_k».proof.Proof.Gen.ReferenceIdeal
public import Idealize.ShloMosaic.Lib.Pipeline.ValueKit
public import Idealize.ShloMosaic.Lib.Quiescent

@[expose] public section

set_option maxRecDepth 16384

/-! # The reference runs and leaves its arguments -/

noncomputable section
namespace Cert.Proof
open Idealize.ShloMosaic Idealize.SL.Sem

set_option maxHeartbeats 8000000 in
theorem frame_reference : Cert.quiescent_ReferenceIdeal (hReferenceIdeal := Cert.ReferenceIdeal.Gen.facts) := by
  intro m g _
  hlo_run
  · exact fun _ => ⟨trivial, trivial, trivial, trivial, trivial, trivial, trivial, trivial, trivial, trivial, trivial, trivial⟩
  · exact sem_eq_zero_of_no_sems rfl _

end Cert.Proof
end
-- ==== Proof.Spec.lean ====
module

public import Idealize.ShloMosaic.Lib.Pointwise

@[expose] public section

set_option maxRecDepth 16384

/-! # The filtered map, entry by entry

A plane is a function of two natural numbers that already answers beyond its last row and column with
the last ones; below zero the subtraction of natural numbers stops at the first. -/

noncomputable section
namespace Cert.Spec
open Idealize.ShloMosaic

/-- A plane of a batch of images, held at its last row and column beyond them. -/
def plane (x : (⟨4, ![2, 64, 96, 96]⟩ : Shape).Idx → EReal) (b : Fin 2) (c : Fin 64) (i j : ℕ) : EReal :=
  x (ix4 b c ⟨min i 95, by omega⟩ ⟨min j 95, by omega⟩)

theorem plane_edge (x : (⟨4, ![2, 64, 96, 96]⟩ : Shape).Idx → EReal) (b : Fin 2) (c : Fin 64) (i : ℕ) :
    plane x b c i 96 = plane x b c i 95 := rfl

/-- Within its bounds the plane is the image. -/
theorem plane_in (x : (⟨4, ![2, 64, 96, 96]⟩ : Shape).Idx → EReal) (b : Fin 2) (c : Fin 64) (i j i' j' : ℕ) (hi : i' < 96) (hj : j' < 96)
    (ei : min i 95 = i') (ej : min j 95 = j') : x (ix4 b c ⟨i', hi⟩ ⟨j', hj⟩) = plane x b c i j := by
  subst ei ej
  rfl

/-- Three quarters of the near entry and one quarter of the far one. -/
def mix (near far : EReal) : EReal :=
  Ideal.ofBits FTy.f32 1061158912#32 * near + Ideal.ofBits FTy.f32 1048576000#32 * far

/-- The rows doubled. -/
def vert (f : ℕ → ℕ → EReal) (g k : ℕ) : EReal :=
  if g % 2 < 1 then mix (f (g / 2) k) (f (g / 2 - 1) k) else mix (f (g / 2) k) (f (g / 2 + 1) k)

/-- Rows and columns doubled. -/
def up (f : ℕ → ℕ → EReal) (g w : ℕ) : EReal :=
  if w % 2 < 1 then mix (vert f g (w / 2)) (vert f g (w / 2 - 1)) else mix (vert f g (w / 2)) (vert f g (w / 2 + 1))

/-- The doubled plane inside a border of zeros, one wide. -/
def bordered (f : ℕ → ℕ → EReal) (i j : ℕ) : EReal :=
  if (1 ≤ i ∧ i < 193) ∧ 1 ≤ j ∧ j < 193 then up f (i - 1) (j - 1) else 0

/-- One of the nine taps of the three-by-three sum. -/
def tap (f : Fin 64 → ℕ → ℕ → EReal) (w : Fin 9 → Fin 64 → Fin 64 → EReal) (o : Fin 64) (h q : ℕ) (k : Fin 9) : EReal :=
  ∑ c, w k o c * bordered (f c) (h + k.val / 3) (q + k.val % 3)

/-- The three-by-three sum with its bias. -/
def conv (f : Fin 64 → ℕ → ℕ → EReal) (w : Fin 9 → Fin 64 → Fin 64 → EReal) (bias : Fin 64 → EReal) (o : Fin 64) (h q : ℕ) : EReal :=
  tap f w o h q 0 + tap f w o h q 1 + (tap f w o h q 2 + tap f w o h q 3) +
    (tap f w o h q 4 + tap f w o h q 5 + (tap f w o h q 6 + tap f w o h q 7)) + tap f w o h q 8 + bias o

/-- An entry made standard: shifted by the mean, divided by the root of the variance, scaled and moved. -/
def norm (x mean var scale shift : EReal) : EReal :=
  Ideal.div (x - mean) (Ideal.sqrt (var + Ideal.ofBits FTy.f32 925353388#32)) * scale + shift

/-- The filtered map at a channel, a row and a column. -/
def feature (f : Fin 64 → ℕ → ℕ → EReal) (w : Fin 9 → Fin 64 → Fin 64 → EReal) (bias m₁ v₁ s₁ t₁ : Fin 64 → EReal)
    (u : Fin 32 → Fin 64 → EReal) (m₂ v₂ s₂ t₂ : Fin 32 → EReal) (o : Fin 32) (h q : ℕ) : EReal :=
  let y := norm (∑ c, u o c * max (norm (conv f w bias c h q) (m₁ c) (v₁ c) (s₁ c) (t₁ c)) 0) (m₂ o) (v₂ o) (s₂ o) (t₂ o)
  if 1 < y then y else 0

/-- The filtered map is nowhere negative. -/
theorem feature_nonneg (f : Fin 64 → ℕ → ℕ → EReal) (w : Fin 9 → Fin 64 → Fin 64 → EReal) (bias m₁ v₁ s₁ t₁ : Fin 64 → EReal)
    (u : Fin 32 → Fin 64 → EReal) (m₂ v₂ s₂ t₂ : Fin 32 → EReal) (o : Fin 32) (h q : ℕ) :
    0 ≤ feature f w bias m₁ v₁ s₁ t₁ u m₂ v₂ s₂ t₂ o h q := by
  unfold feature
  dsimp only
  split
  · exact le_trans zero_le_one (le_of_lt ‹_›)
  · exact le_refl _

end Cert.Spec
end
-- ==== Proof.HostIn.lean ====
module

public import proofs.«01_k».proof.Proof.Launched
public import proofs.«01_k».proof.Proof.Spec
public import Idealize.ShloMosaic.Lib.StableHlo.RunRead

@[expose] public section

set_option maxRecDepth 16384

/-! # What the first call is entered with -/

noncomputable section
namespace Cert.KernelIdeal.Run
open Idealize.ShloMosaic Idealize.ShloMosaic.TcCoe Idealize.ShloMosaic.Tactic
open Cert.KernelIdeal Cert.KernelIdeal.Gen Cert.Spec

variable (V : Valuation τ sig (Elt Ideal))

/-- No column is added. -/
theorem cols_between (z₀ z₁ : FVec Ideal S2x64x100x0 .f32) (y : FVec Ideal S2x64x100x96 .f32) (b : Fin 2) (c : Fin 64) (q : Fin 100) (k : Fin 96) :
    concatenate S2x64x100x96 3 [⟨S2x64x100x0, z₀⟩, ⟨S2x64x100x96, y⟩, ⟨S2x64x100x0, z₁⟩] concatenates_S2x64x100x0_S2x64x100x96_S2x64x100x0_S2x64x100x96_d3 (ix4 b c q k) = y (ix4 b c q k) := by
  pointwise []
  exact dif_neg (Nat.not_lt_zero _)

theorem cols_read (b : Fin 2) (c : Fin 64) (q : Fin 100) (k : Fin 96) :
    (StableHlo.after (hostOps0_1.drop 21) V (Proc.devRef .tc main_v5) : FVec Ideal S2x64x100x96 .f32) (ix4 b c q k)
      = (V (Proc.devRef .tc main_call0_v20) : FVec Ideal S2x64x100x96 .f32) (ix4 b c q k) := by
  after_reads_simp
  refine (cols_between _ _ _ b c q k).trans ?_
  show (StableHlo.upto (hostOps0_1.drop 21) V 6 (Proc.devRef .tc main_call0_v20) : FVec Ideal S2x64x100x96 .f32) (ix4 b c q k) = _
  after_reads_simp

/-- A row outside the image is its nearest row. -/
theorem edge_rows (x : FVec Ideal S2x64x96x96 .f32) (b : Fin 2) (c : Fin 64) (q : Fin 100) (k : Fin 96) :
    (if h : q.val < 2 then x (ix4 b c 0 k) else if h : q.val - 2 < 96 then x (ix4 b c ⟨q.val - 2, h⟩ k) else x (ix4 b c 95 k))
      = plane x b c (q.val - 2) k.val := by
  by_cases h1 : q.val < 2
  · rw [dif_pos h1]
    exact plane_in x b c _ _ 0 k.val (by omega) k.isLt (by omega) (by omega)
  · rw [dif_neg h1]
    by_cases h2 : q.val - 2 < 96
    · rw [dif_pos h2]
      exact plane_in x b c _ _ _ k.val h2 k.isLt (by omega) (by omega)
    · rw [dif_neg h2]
      exact plane_in x b c _ _ 95 k.val (by omega) k.isLt (by omega) (by omega)

/-- Two rows are added at either end. -/
theorem rows_read (b : Fin 2) (c : Fin 64) (q : Fin 100) (k : Fin 96) :
    (StableHlo.after ((hostOps0_1.drop 14).take 7) V (Proc.devRef .tc main_call0_v20) : FVec Ideal S2x64x100x96 .f32) (ix4 b c q k)
      = plane (V (Proc.devRef .tc main_call0_v13)) b c (q.val - 2) k.val := by
  after_reads_simp
  show (concatenate S2x64x100x96 2 [⟨S2x64x2x96, (StableHlo.upto ((hostOps0_1.drop 14).take 7) V 6 (Proc.devRef .tc main_call0_v16) : FVec Ideal S2x64x2x96 .f32)⟩,
    ⟨S2x64x96x96, (StableHlo.upto ((hostOps0_1.drop 14).take 7) V 6 (Proc.devRef .tc main_call0_v13) : FVec Ideal S2x64x96x96 .f32)⟩,
    ⟨S2x64x2x96, (StableHlo.upto ((hostOps0_1.drop 14).take 7) V 6 (Proc.devRef .tc main_call0_v19) : FVec Ideal S2x64x2x96 .f32)⟩]
    concatenates_S2x64x2x96_S2x64x96x96_S2x64x2x96_S2x64x100x96_d2 : FVec Ideal S2x64x100x96 .f32) (ix4 b c q k) = _
  after_reads_simp
  pointwise [StableHlo.TRef.toBuf, StableHlo.TRef.ofBuf, cast_eq]
  exact edge_rows _ b c q k

/-- No channel is added. -/
theorem chans_between (z₀ z₁ : FVec Ideal S2x0x96x96 .f32) (y : FVec Ideal S2x64x96x96 .f32) (b : Fin 2) (c : Fin 64) (q : Fin 96) (k : Fin 96) :
    concatenate S2x64x96x96 1 [⟨S2x0x96x96, z₀⟩, ⟨S2x64x96x96, y⟩, ⟨S2x0x96x96, z₁⟩] concatenates_S2x0x96x96_S2x64x96x96_S2x0x96x96_S2x64x96x96_d1 (ix4 b c q k) = y (ix4 b c q k) := by
  pointwise []
  exact dif_neg (Nat.not_lt_zero _)

theorem chans_read (b : Fin 2) (c : Fin 64) (q : Fin 96) (k : Fin 96) :
    (StableHlo.after ((hostOps0_1.drop 7).take 7) V (Proc.devRef .tc main_call0_v13) : FVec Ideal S2x64x96x96 .f32) (ix4 b c q k)
      = (V (Proc.devRef .tc main_call0_v6) : FVec Ideal S2x64x96x96 .f32) (ix4 b c q k) := by
  after_reads_simp
  refine (chans_between _ _ _ b c q k).trans ?_
  show (StableHlo.upto ((hostOps0_1.drop 7).take 7) V 6 (Proc.devRef .tc main_call0_v6) : FVec Ideal S2x64x96x96 .f32) (ix4 b c q k) = _
  after_reads_simp

/-- No image is added. -/
theorem images_between (z₀ z₁ : FVec Ideal S0x64x96x96 .f32) (y : FVec Ideal S2x64x96x96 .f32) (b : Fin 2) (c : Fin 64) (q : Fin 96) (k : Fin 96) :
    concatenate S2x64x96x96 0 [⟨S0x64x96x96, z₀⟩, ⟨S2x64x96x96, y⟩, ⟨S0x64x96x96, z₁⟩] concatenates_S0x64x96x96_S2x64x96x96_S0x64x96x96_S2x64x96x96_d0 (ix4 b c q k) = y (ix4 b c q k) := by
  pointwise []
  exact dif_neg (Nat.not_lt_zero _)

theorem images_read (b : Fin 2) (c : Fin 64) (q : Fin 96) (k : Fin 96) :
    (StableHlo.after (hostOps0_1.take 7) V (Proc.devRef .tc main_call0_v6) : FVec Ideal S2x64x96x96 .f32) (ix4 b c q k)
      = (V (Proc.devRef .tc main_arg0) : FVec Ideal S2x64x96x96 .f32) (ix4 b c q k) := by
  after_reads_simp
  refine (images_between _ _ _ b c q k).trans ?_
  show (StableHlo.upto (hostOps0_1.take 7) V 6 (Proc.devRef .tc main_arg0) : FVec Ideal S2x64x96x96 .f32) (ix4 b c q k) = _
  after_reads_simp

theorem split_read : StableHlo.after hostOps0_1 V = StableHlo.after (hostOps0_1.drop 21) (StableHlo.after ((hostOps0_1.drop 14).take 7)
    (StableHlo.after ((hostOps0_1.drop 7).take 7) (StableHlo.after (hostOps0_1.take 7) V))) := rfl

/-- The image as the first call is handed it: two rows added at either end. -/
theorem pad_read (b : Fin 2) (c : Fin 64) (q : Fin 100) (k : Fin 96) :
    (StableHlo.after hostOps0_1 V (Proc.devRef .tc main_v5) : FVec Ideal S2x64x100x96 .f32) (ix4 b c q k)
      = plane (V (Proc.devRef .tc main_arg0)) b c (q.val - 2) k.val := by
  rw [split_read]
  refine (cols_read _ b c q k).trans ((rows_read _ b c q k).trans ?_)
  unfold plane
  exact (chans_read _ b c _ _).trans (images_read V b c _ _)

variable (m : (ℓ : Loc nD τ sig) → Buf (Elt Ideal) ℓ) (c : Dev nD)

theorem image_read (b : Fin 2) (o : Fin 64) (q : Fin 100) (k : Fin 96) :
    (V3 m c (Proc.devRef .tc main_v5) : FVec Ideal S2x64x100x96 .f32) (ix4 b o q k) = plane (m (c, Proc.devRef .tc main_arg0)) b o (q.val - 2) k.val := by
  have h3 : V3 m c (Proc.devRef .tc main_v5) = V2 m c (Proc.devRef .tc main_v5) := by unfold V3; after_reads_simp
  rw [h3]
  refine (pad_read (V1 m c) b o q k).trans ?_
  have h1 : V1 m c (Proc.devRef .tc main_arg0) = V0 m c (Proc.devRef .tc main_arg0) := by unfold V1; after_reads_simp
  rw [h1]

theorem taps_read (k : Fin 9) (o i : Fin 64) :
    (V3 m c (Proc.devRef .tc main_v2) : FVec Ideal S9x64x64 .bf16) (ix3 k o i) = (m (c, Proc.devRef .tc main_arg1) : FVec Ideal S64x64x3x3 .f32) (ix4 o i ⟨k.val / 3, by omega⟩ ⟨k.val % 3, by omega⟩) := by
  have h3 : V3 m c (Proc.devRef .tc main_v2) = V1 m c (Proc.devRef .tc main_v2) := by unfold V3; after_reads_simp; unfold V2; after_reads_simp
  rw [h3]
  unfold V1
  after_reads_simp
  pointwise []

theorem mix_read (o : Fin 32) (i : Fin 64) :
    (V3 m c (Proc.devRef .tc main_v4) : FVec Ideal S32x64 .bf16) (ix2 o i) = (m (c, Proc.devRef .tc main_arg7) : FVec Ideal S32x64x1x1 .f32) (ix4 o i 0 0) := by
  have h3 : V3 m c (Proc.devRef .tc main_v4) = V1 m c (Proc.devRef .tc main_v4) := by unfold V3; after_reads_simp; unfold V2; after_reads_simp
  rw [h3]
  unfold V1
  after_reads_simp
  pointwise []

/-- The arguments are untouched before the columns are laid out. -/
theorem arg_read (b : Ref sig .tc) (h1 : StableHlo.after hostOps0_1 (V1 m c) (Proc.devRef .tc b) = V1 m c (Proc.devRef .tc b))
    (h0 : V1 m c (Proc.devRef .tc b) = V0 m c (Proc.devRef .tc b)) : V2 m c (Proc.devRef .tc b) = m (c, Proc.devRef .tc b) :=
  h1.trans h0

theorem col2_read (o : Fin 64) :
    (V3 m c (Proc.devRef .tc main_v6) : FVec Ideal S64x1 .f32) (ix2 o 0) = (m (c, Proc.devRef .tc main_arg2) : FVec Ideal S64 .f32) (ix1 o) := by
  unfold V3
  after_reads_simp
  rw [arg_read m c main_arg2 (by after_reads_simp) (by unfold V1; after_reads_simp)]
  pointwise []

theorem col3_read (o : Fin 64) :
    (V3 m c (Proc.devRef .tc main_v7) : FVec Ideal S64x1 .f32) (ix2 o 0) = (m (c, Proc.devRef .tc main_arg3) : FVec Ideal S64 .f32) (ix1 o) := by
  unfold V3
  after_reads_simp
  rw [arg_read m c main_arg3 (by after_reads_simp) (by unfold V1; after_reads_simp)]
  pointwise []

theorem col4_read (o : Fin 64) :
    (V3 m c (Proc.devRef .tc main_v8) : FVec Ideal S64x1 .f32) (ix2 o 0) = (m (c, Proc.devRef .tc main_arg4) : FVec Ideal S64 .f32) (ix1 o) := by
  unfold V3
  after_reads_simp
  rw [arg_read m c main_arg4 (by after_reads_simp) (by unfold V1; after_reads_simp)]
  pointwise []

theorem col5_read (o : Fin 64) :
    (V3 m c (Proc.devRef .tc main_v9) : FVec Ideal S64x1 .f32) (ix2 o 0) = (m (c, Proc.devRef .tc main_arg5) : FVec Ideal S64 .f32) (ix1 o) := by
  unfold V3
  after_reads_simp
  rw [arg_read m c main_arg5 (by after_reads_simp) (by unfold V1; after_reads_simp)]
  pointwise []

theorem col6_read (o : Fin 64) :
    (V3 m c (Proc.devRef .tc main_v10) : FVec Ideal S64x1 .f32) (ix2 o 0) = (m (c, Proc.devRef .tc main_arg6) : FVec Ideal S64 .f32) (ix1 o) := by
  unfold V3
  after_reads_simp
  rw [arg_read m c main_arg6 (by after_reads_simp) (by unfold V1; after_reads_simp)]
  pointwise []

theorem col8_read (o : Fin 32) :
    (V3 m c (Proc.devRef .tc main_v11) : FVec Ideal S32x1 .f32) (ix2 o 0) = (m (c, Proc.devRef .tc main_arg8) : FVec Ideal S32 .f32) (ix1 o) := by
  unfold V3
  after_reads_simp
  rw [arg_read m c main_arg8 (by after_reads_simp) (by unfold V1; after_reads_simp)]
  pointwise []

theorem col9_read (o : Fin 32) :
    (V3 m c (Proc.devRef .tc main_v12) : FVec Ideal S32x1 .f32) (ix2 o 0) = (m (c, Proc.devRef .tc main_arg9) : FVec Ideal S32 .f32) (ix1 o) := by
  unfold V3
  after_reads_simp
  rw [arg_read m c main_arg9 (by after_reads_simp) (by unfold V1; after_reads_simp)]
  pointwise []

theorem col10_read (o : Fin 32) :
    (V3 m c (Proc.devRef .tc main_v13) : FVec Ideal S32x1 .f32) (ix2 o 0) = (m (c, Proc.devRef .tc main_arg10) : FVec Ideal S32 .f32) (ix1 o) := by
  unfold V3
  after_reads_simp
  rw [arg_read m c main_arg10 (by after_reads_simp) (by unfold V1; after_reads_simp)]
  pointwise []

theorem col11_read (o : Fin 32) :
    (V3 m c (Proc.devRef .tc main_v14) : FVec Ideal S32x1 .f32) (ix2 o 0) = (m (c, Proc.devRef .tc main_arg11) : FVec Ideal S32 .f32) (ix1 o) := by
  unfold V3
  after_reads_simp
  rw [arg_read m c main_arg11 (by after_reads_simp) (by unfold V1; after_reads_simp)]
  pointwise []

end Cert.KernelIdeal.Run
end
-- ==== Proof.DenseValue.lean ====
module

public import proofs.«01_k».proof.Proof.DenseProg
public import proofs.«01_k».proof.Proof.Spec

@[expose] public section

set_option maxRecDepth 16384

/-! # The dense block, entry by entry -/

noncomputable section
namespace Cert.KernelIdeal.Value
open Idealize.ShloMosaic Idealize.ShloMosaic.TcCoe
open Cert.KernelIdeal Cert.KernelIdeal.Gen Cert.Spec

/-- The slab of doubled rows is the doubled plane, from one row above the block's first. -/
theorem pay2_at (v : Vec Ideal S1x64x8x96 .f32) (f : Fin 64 → ℕ → ℕ → EReal) (n : ℕ)
    (hv : ∀ c (q : Fin 8) (k : Fin 96), v (ix4 0 c q k) = f c (4 * n + q.val - 2) k.val)
    (hf : ∀ c i, f c i 96 = f c i 95) (c : Fin 64) (r : Fin 10) (w : Fin 192) (hr : 1 ≤ 8 * n + r.val) :
    k0_pay2 v (ix3 c r w) = up (f c) (8 * n + r.val - 1) w.val := by
  pointwise [k0_pay2, hv]
  have e1 : 4 * n + (1 + (1 + r.val) / 2) - 2 = (8 * n + r.val - 1) / 2 := by omega
  have e2 : 4 * n + ((1 + r.val) / 2) - 2 = (8 * n + r.val - 1) / 2 - 1 := by omega
  have ew : w.val / 2 < 96 := by omega
  simp only [up, vert, mix, e1, e2]
  by_cases h1 : (1 + r.val) % 2 < 1
  · have h1' : (8 * n + r.val - 1) % 2 < 1 := by omega
    simp only [h1, h1', dite_true, if_true]
    by_cases h2 : w.val % 2 < 1
    · simp only [h2, dite_true, if_true]
      by_cases h3 : w.val / 2 < 1
      · have : w.val / 2 - 1 = w.val / 2 := by omega
        simp only [h3, dite_true, this]
      · simp only [h3, dite_false]
    · simp only [h2, dite_false, if_false]
      by_cases h3 : w.val / 2 < 95
      · have : 1 + w.val / 2 = w.val / 2 + 1 := by omega
        simp only [h3, dite_true, this]
      · have h4 : w.val / 2 = 95 := by omega
        simp only [h4, lt_irrefl, dite_false, hf, Nat.sub_self, Nat.add_zero]
  · have h1' : ¬ (8 * n + r.val - 1) % 2 < 1 := by omega
    have e3 : 4 * n + (2 + (1 + r.val) / 2) - 2 = (8 * n + r.val - 1) / 2 + 1 := by omega
    simp only [h1, h1', dite_false, if_false, e3]
    by_cases h2 : w.val % 2 < 1
    · simp only [h2, dite_true, if_true]
      by_cases h3 : w.val / 2 < 1
      · have : w.val / 2 - 1 = w.val / 2 := by omega
        simp only [h3, dite_true, this]
      · simp only [h3, dite_false]
    · simp only [h2, dite_false, if_false]
      by_cases h3 : w.val / 2 < 95
      · have : 1 + w.val / 2 = w.val / 2 + 1 := by omega
        simp only [h3, dite_true, this]
      · have h4 : w.val / 2 = 95 := by omega
        simp only [h4, lt_irrefl, dite_false, hf, Nat.sub_self, Nat.add_zero]

/-- The test that keeps a slab's row inside the map. -/
theorem row_inside (n r : ℕ) (hn : n < 24) (hr : r < 10) :
    IntOp.andi (IntOp.cmpi CmpIPredicate.sge (IntOp.addi (Scalar.subi (Scalar.muli (BitVec.ofNat 32 n) 8#32) 1#32) (BitVec.ofNat 32 r)) 0#32)
      (IntOp.cmpi CmpIPredicate.slt (IntOp.addi (Scalar.subi (Scalar.muli (BitVec.ofNat 32 n) 8#32) 1#32) (BitVec.ofNat 32 r)) 192#32)
      = if 1 ≤ 8 * n + r ∧ 8 * n + r < 193 then 1#1 else 0#1 := by
  revert hr
  revert r
  revert hn
  revert n
  decide +kernel

/-- The slab inside its border of zeros. -/
theorem pay3_at (v : FVec Ideal S64x10x192 .f32) (f : Fin 64 → ℕ → ℕ → EReal) (n : ℕ) (hn : n < 24)
    (hv : ∀ c (r : Fin 10) (w : Fin 192), 1 ≤ 8 * n + r.val → v (ix3 c r w) = up (f c) (8 * n + r.val - 1) w.val)
    (c : Fin 64) (r : Fin 10) (w : Fin 194) :
    k0_pay3 v (Scalar.subi (Scalar.muli (BitVec.ofNat 32 n) 8#32) 1#32) (ix3 c r w) = bordered (f c) (8 * n + r.val) w.val := by
  pointwise [k0_pay3]
  rw [row_inside n r.val hn r.isLt]
  unfold bordered
  by_cases h1 : w.val < 193
  · by_cases h2 : w.val < 1
    · have h3 : ¬ 1 ≤ w.val := by omega
      simp only [h1, h2, h3, dite_true, false_and, and_false, if_false]
      simp
    · have h3 : 1 ≤ w.val := by omega
      by_cases h4 : 1 ≤ 8 * n + r.val ∧ 8 * n + r.val < 193
      · simp only [h1, h2, h3, h4, dite_true, dite_false, and_self, if_true, hv c r ⟨w.val - 1, by omega⟩ h4.1]
        rfl
      · simp only [h1, h2, h3, h4, dite_true, dite_false, false_and, if_false]
        rfl
  · simp only [h1, dite_false, and_false, if_false]
    simp

/-- The three-by-three sum over a slab. -/
theorem conv_at (v : FVec Ideal S64x10x192 .f32) (x1 : Vec Ideal S9x64x64 .bf16) (x2 : Vec Ideal S64x1 .f32)
    (f : Fin 64 → ℕ → ℕ → EReal) (n : ℕ) (hn : n < 24)
    (hv : ∀ c (r : Fin 10) (w : Fin 192), 1 ≤ 8 * n + r.val → v (ix3 c r w) = up (f c) (8 * n + r.val - 1) w.val)
    (o : Fin 64) (r : Fin 8) (w : Fin 192) (h : r.val * 192 + w.val < 1536) :
    Dense.conv (Scalar.subi (Scalar.muli (BitVec.ofNat 32 n) 8#32) 1#32) v x1 x2 (ix2 o ⟨r.val * 192 + w.val, h⟩) =
      conv f (fun k o c => x1 (ix3 k o c)) (fun o => x2 (ix2 o 0)) o (8 * n + r.val) w.val := by
  have hp := pay3_at v f n hn hv
  have d : (r.val * 192 + w.val) / 192 = r.val := by omega
  have m : (r.val * 192 + w.val) % 192 = w.val := by omega
  pointwise [Dense.conv, k0_pay4, k0_pay5, k0_pay6, k0_pay7, k0_pay8, k0_pay9, Dense.tap, Dense.col64, hp, d, m]
  have e : ∀ a, 8 * n + (a + r.val) = 8 * n + r.val + a := by intro a; omega
  have g : ∀ a, a + w.val = w.val + a := by intro a; omega
  simp only [e, g]
  rfl

/-- The block the body stores is the filtered map, from the block's first row. -/
theorem out_at (i : grid0.Coords) (x0 : Vec Ideal S1x64x100x96 .f32) (x1 : Vec Ideal S9x64x64 .bf16) (x2 x3 x4 x5 x6 : Vec Ideal S64x1 .f32)
    (x7 : Vec Ideal S32x64 .bf16) (x8 x9 x10 x11 : Vec Ideal S32x1 .f32) (f : Fin 64 → ℕ → ℕ → EReal)
    (hx : ∀ c (q : Fin 100) (k : Fin 96), x0 (ix4 0 c q k) = f c (q.val - 2) k.val)
    (hf : ∀ c i, f c i 96 = f c i 95) (o : Fin 32) (r : Fin 8) (w : Fin 192) :
    Dense.out i x0 x1 x2 x3 x4 x5 x6 x7 x8 x9 x10 x11 (ix4 0 o r w) =
      feature f (fun k o c => x1 (ix3 k o c)) (fun o => x2 (ix2 o 0)) (fun o => x5 (ix2 o 0)) (fun o => x6 (ix2 o 0)) (fun o => x3 (ix2 o 0))
        (fun o => x4 (ix2 o 0)) (fun o c => x7 (ix2 o c)) (fun o => x10 (ix2 o 0)) (fun o => x11 (ix2 o 0)) (fun o => x8 (ix2 o 0))
        (fun o => x9 (ix2 o 0)) o (8 * (i 1).val + r.val) w.val := by
  have hn : (i 1).val < 24 := (i 1).isLt
  have hs : ∀ c (r : Fin 10) (w : Fin 192), 1 ≤ 8 * (i 1).val + r.val → Dense.slab i x0 (ix3 c r w) = up (f c) (8 * (i 1).val + r.val - 1) w.val := by
    intro c r w hr
    unfold Dense.slab
    refine pay2_at _ f _ ?_ hf c r w hr
    intro c q k
    pointwise [k0_off1, hx]
    have e : BitVec.toNat (Scalar.indexCast (Scalar.muli (BitVec.ofNat 32 (i 1).val) 4#32)) = 4 * (i 1).val := by
      generalize (i 1).val = n at hn
      revert hn
      revert n
      decide +kernel
    rw [e]
  pointwise [Dense.out, k0_pay1, k0_pay10, Dense.col64, Dense.col32, conv_at _ x1 x2 f _ hn hs]
  rfl
end Cert.KernelIdeal.Value
end
-- ==== Proof.Order.lean ====
module

public import Idealize.ShloMosaic.Lib.Pointwise
public import Idealize.ShloMosaic.Lib.SortFacts

@[expose] public section

/-! # The greatest entries, in order

A stable sort by "greater first" lists the entries from the greatest down, equal ones in the order of
their places. Taking the first greatest entry out again and again gives the same list. -/

noncomputable section
namespace Cert.Spec
open Idealize.ShloMosaic

/-- The place of the `k`-th greatest. -/
def order {n : Nat} (p : Fin n → EReal) (k : Fin n) : Fin n := sortedFrom (fun a b => decide (p b < p a)) k

/-- Greater, or as great and earlier. -/
def ahead {n : Nat} (p : Fin n → EReal) (a b : Fin n) : Bool := decide (p b < p a ∨ (p a = p b ∧ a < b))

theorem sort_ahead {n : Nat} (p : Fin n → EReal) (l : List (Fin n)) (hl : l.Pairwise (· < ·)) :
    stableSort (fun a b => decide (p b < p a)) l = stableSort (ahead p) l := by
  induction l with
  | nil => rfl
  | cons a l ih =>
    rw [List.pairwise_cons] at hl
    unfold stableSort
    rw [ih hl.2]
    refine insertBefore_congr _ _ a _ fun b hb => ?_
    have hb' : b ∈ l := (perm_stableSort (ahead p) l).mem_iff.mp hb
    have hab := hl.1 b hb'
    have hn : ¬ b < a := not_lt.mpr hab.le
    simp [ahead, hn]

theorem order_eq {n : Nat} (p : Fin n → EReal) : order p = sortedFrom (ahead p) := by
  funext k
  unfold order sortedFrom
  have h : sortPositions n (fun a b => decide (p b < p a)) = sortPositions n (ahead p) :=
    sort_ahead p _ (List.pairwise_lt_finRange n)
  rw [List.get_of_eq h]
  rfl

theorem order_injective {n : Nat} (p : Fin n → EReal) : Function.Injective (order p) := sortedFrom_injective _

theorem order_surjective {n : Nat} (p : Fin n → EReal) : Function.Surjective (order p) := sortedFrom_surjective _

theorem order_ahead {n : Nat} (p : Fin n → EReal) (i j : Fin n) (hij : i < j) :
    p (order p j) < p (order p i) ∨ (p (order p i) = p (order p j) ∧ order p i < order p j) := by
  have h := sortedFrom_noInversion (ahead p) (ahead p)
    (fun a b h => by
      simp only [ahead, decide_eq_true_eq, decide_eq_false_iff_not] at h ⊢
      rcases h with h | ⟨h, h'⟩
      · rintro (k | ⟨k, _⟩)
        · exact lt_asymm h k
        · exact h.ne k
      · rintro (k | ⟨_, k⟩)
        · exact k.ne h
        · exact lt_asymm h' k)
    (fun _ _ h => h)
    (fun a b c h₁ h₂ => by
      simp only [ahead, decide_eq_false_iff_not, not_or, not_and, not_lt] at h₁ h₂ ⊢
      refine ⟨h₁.1.trans h₂.1, fun e => ?_⟩
      have e₁ : p a = p b := le_antisymm h₁.1 (e ▸ h₂.1)
      exact (h₂.2 (e₁ ▸ e)).trans (h₁.2 e₁)) i j hij
  rw [← order_eq] at h
  simp only [ahead, decide_eq_false_iff_not, not_or, not_and, not_lt] at h
  rcases h.1.lt_or_eq with k | k
  · exact .inl k
  · refine .inr ⟨k.symm, lt_of_le_of_ne (h.2 k) fun e => hij.ne (order_injective p e)⟩

/-- The entries once the first `n` of the list are taken out: minus one in their place. -/
def left {N : Nat} (p : Fin N → EReal) (n : Nat) (k : Fin N) : EReal :=
  if ∃ m : Fin N, m.val < n ∧ order p m = k then -1 else p k

theorem left_zero {N : Nat} (p : Fin N → EReal) : left p 0 = p := by
  funext k
  unfold left
  rw [if_neg]
  rintro ⟨m, h, _⟩
  omega

theorem left_succ {N : Nat} (p : Fin N → EReal) (n : Fin N) (k : Fin N) :
    left p (n.val + 1) k = if k = order p n then -1 else left p n.val k := by
  unfold left
  by_cases h : k = order p n
  · rw [if_pos h, if_pos ⟨n, by omega, h.symm⟩]
  · rw [if_neg h]
    refine if_congr ⟨?_, ?_⟩ rfl rfl
    · rintro ⟨m, hm, e⟩
      refine ⟨m, ?_, e⟩
      rcases Nat.lt_succ_iff_lt_or_eq.mp hm with h' | h'
      · exact h'
      · exact absurd (Fin.ext h' ▸ e.symm) h
    · rintro ⟨m, hm, e⟩
      exact ⟨m, by omega, e⟩

theorem left_at {N : Nat} (p : Fin N → EReal) (n : Fin N) : left p n.val (order p n) = p (order p n) := by
  unfold left
  rw [if_neg]
  rintro ⟨m, hm, e⟩
  have := order_injective p e
  omega

theorem left_le {N : Nat} (p : Fin N → EReal) (hp : ∀ k, 0 ≤ p k) (n k : Fin N) : left p n.val k ≤ p (order p n) := by
  unfold left
  split
  · refine le_trans ?_ (hp _)
    simp
  · next h =>
    obtain ⟨m, rfl⟩ := order_surjective p k
    have hm : n ≤ m := by
      by_contra h'
      exact h ⟨m, by omega, rfl⟩
    rcases hm.lt_or_eq with h' | rfl
    · rcases order_ahead p n m h' with h'' | ⟨h'', _⟩
      · exact h''.le
      · exact h''.symm.le
    · exact le_rfl

theorem left_first {N : Nat} (p : Fin N → EReal) (hp : ∀ k, 0 ≤ p k) (n k : Fin N) (h : left p n.val k = p (order p n)) :
    order p n ≤ k := by
  unfold left at h
  split at h
  · exact absurd (h ▸ hp _) (by simp)
  · next h' =>
    obtain ⟨m, rfl⟩ := order_surjective p k
    have hm : n ≤ m := by
      by_contra h''
      exact h' ⟨m, by omega, rfl⟩
    rcases hm.lt_or_eq with h'' | rfl
    · rcases order_ahead p n m h'' with k | ⟨_, k⟩
      · exact absurd h k.ne
      · exact k.le
    · exact le_rfl

/-- A fold ends with an entry that beats every other. -/
theorem foldl_best {ι α : Type} (f : α → α → α) (g : α) (le : α → Prop) (hf : ∀ a b, le a → le b → le (f a b))
    (hl : ∀ b, le b → f g b = g) (hr : ∀ a, le a → f a g = g) (x : ι → α) (l : List ι) (hx : ∀ i ∈ l, le (x i))
    (hg : ∃ i ∈ l, x i = g) (a : α) (ha : le a) : l.foldl (fun r i => f r (x i)) a = g := by
  have keep : ∀ l : List ι, (∀ i ∈ l, le (x i)) → l.foldl (fun r i => f r (x i)) g = g := by
    intro l
    induction l with
    | nil => intro _; rfl
    | cons b l ih =>
      intro h
      rw [List.foldl_cons, hl _ (h b List.mem_cons_self)]
      exact ih fun i hi => h i (List.mem_cons_of_mem b hi)
  induction l generalizing a with
  | nil => obtain ⟨i, h, _⟩ := hg; exact absurd h List.not_mem_nil
  | cons b l ih =>
    rw [List.foldl_cons]
    have hb := hx b List.mem_cons_self
    have hx' : ∀ i ∈ l, le (x i) := fun i hi => hx i (List.mem_cons_of_mem b hi)
    obtain ⟨i, hi, e⟩ := hg
    rcases List.mem_cons.mp hi with rfl | hi
    · rw [e, hr a ha]; exact keep l hx'
    · exact ih hx' ⟨i, hi, e⟩ _ (hf _ _ ha hb)

end Cert.Spec
end
-- ==== Proof.Peaks.lean ====
module

public import proofs.«01_k».proof.Proof.Order

@[expose] public section

/-! # The peaks of a map

Around a map lie two rows and columns of zeros. A place is a peak when the sum over its window of five by
five is the greatest of the sums in that window. -/

noncomputable section
namespace Cert.Spec
open Idealize.ShloMosaic

/-- A map inside its border of two zeros. -/
def ring (X : ℕ → ℕ → EReal) (i j : ℕ) : EReal := if 2 ≤ i ∧ i < 194 ∧ 2 ≤ j ∧ j < 194 then X (i - 2) (j - 2) else 0

/-- Five in a row, added. -/
def five (f : ℕ → EReal) : EReal := f 0 + f 1 + f 2 + f 3 + f 4

/-- The sum over a window. -/
def total (X : ℕ → ℕ → EReal) (h w : ℕ) : EReal := five fun a => five fun b => ring X (h + a) (w + b)

/-- Greatest of its window. -/
def IsPeak (X : ℕ → ℕ → EReal) (h w : ℕ) : Prop := ∀ a b : ℕ, a < 5 → b < 5 → ring (total X) (h + a) (w + b) ≤ total X h w

open Classical in
/-- The sum at a peak, zero elsewhere. -/
def peak (X : ℕ → ℕ → EReal) (h w : ℕ) : EReal := if IsPeak X h w then total X h w else 0

theorem ring_nonneg (X : ℕ → ℕ → EReal) (hX : ∀ i j, 0 ≤ X i j) (i j : ℕ) : 0 ≤ ring X i j := by
  unfold ring; split
  · exact hX _ _
  · exact le_rfl

theorem five_nonneg (f : ℕ → EReal) (h : ∀ a, 0 ≤ f a) : 0 ≤ five f :=
  add_nonneg (add_nonneg (add_nonneg (add_nonneg (h 0) (h 1)) (h 2)) (h 3)) (h 4)

theorem total_nonneg (X : ℕ → ℕ → EReal) (hX : ∀ i j, 0 ≤ X i j) (h w : ℕ) : 0 ≤ total X h w :=
  five_nonneg _ fun _ => five_nonneg _ fun _ => ring_nonneg X hX _ _

theorem peak_nonneg (X : ℕ → ℕ → EReal) (hX : ∀ i j, 0 ≤ X i j) (h w : ℕ) : 0 ≤ peak X h w := by
  unfold peak; split
  · exact total_nonneg X hX h w
  · exact le_rfl

/-- The greatest of five. -/
def top (f : ℕ → EReal) : EReal := max (max (max (f 0) (f 1)) (max (f 2) (f 3))) (f 4)

theorem top_le (f : ℕ → EReal) (g : EReal) : top f ≤ g ↔ ∀ a, a < 5 → f a ≤ g := by
  unfold top
  simp only [max_le_iff]
  constructor
  · rintro ⟨⟨⟨h0, h1⟩, h2, h3⟩, h4⟩ a ha
    interval_cases a <;> assumption
  · intro h
    exact ⟨⟨⟨h 0 (by omega), h 1 (by omega)⟩, h 2 (by omega), h 3 (by omega)⟩, h 4 (by omega)⟩

theorem ring_in (X : ℕ → ℕ → EReal) (h w : ℕ) (hh : h < 192) (hw : w < 192) : ring X (h + 2) (w + 2) = X h w := by
  unfold ring
  rw [if_pos (by omega)]
  simp

/-- The test a place passes, in the form of the greatest over the window. -/
theorem peak_top (X : ℕ → ℕ → EReal) (h w : ℕ) (hh : h < 192) (hw : w < 192) :
    (total X h w = top fun a => top fun b => ring (total X) (h + a) (w + b)) ↔ IsPeak X h w := by
  constructor
  · intro e a b ha hb
    have h' := (top_le _ _).mp e.symm.le a ha
    exact (top_le _ _).mp h' b hb
  · intro hp
    refine le_antisymm ?_ ((top_le _ _).mpr fun a ha => (top_le _ _).mpr fun b hb => hp a b ha hb)
    have h1 := (top_le (fun a => top fun b => ring (total X) (h + a) (w + b)) _).mp le_rfl 2 (by omega)
    have h2 := (top_le (fun b => ring (total X) (h + 2) (w + b)) _).mp le_rfl 2 (by omega)
    simp only [ring_in _ h w hh hw] at h2
    exact h2.trans h1

/-- The peaks in one list, row by row. -/
def listed (X : ℕ → ℕ → EReal) (k : Fin 36864) : EReal := peak X (k.val / 192) (k.val % 192)

/-- The place of the `n`-th greatest entry, a number. -/
def place {N : ℕ} (p : Fin N → EReal) (m : Fin N) : ℕ := (order p m).val

theorem place_lt {N : ℕ} (p : Fin N → EReal) (m : Fin N) : place p m < N := (order p m).isLt

/-- The place of the `n`-th greatest peak. -/
def spot (X : ℕ → ℕ → EReal) (n : Fin 32) : ℕ := place (listed X) ⟨n.val, by omega⟩

theorem spot_lt (X : ℕ → ℕ → EReal) (n : Fin 32) : spot X n < 36864 := by
  have h : ∀ (N : ℕ) (p : Fin N → EReal) (m : Fin N) (k : ℕ), k = place p m → k < N := by
    rintro N p m k rfl
    exact place_lt p m
  exact h _ _ _ _ rfl

/-- The corners of the window around row `r` and column `c`, kept inside the map. -/
def corner (r c : BitVec 32) (i : ℕ) : BitVec 32 :=
  if i < 1 then IntOp.minsi (191#32) (IntOp.maxsi (0#32) (IntOp.subi c 2#32))
  else if i - 1 < 1 then IntOp.minsi (191#32) (IntOp.maxsi (0#32) (IntOp.subi r 2#32))
  else if i - 1 - 1 < 1 then IntOp.minsi (191#32) (IntOp.maxsi (0#32) (IntOp.addi c 2#32))
  else IntOp.minsi (191#32) (IntOp.maxsi (0#32) (IntOp.addi r 2#32))

end Cert.Spec
end
-- ==== Proof.NmsValue.lean ====
module

public import proofs.«01_k».proof.Proof.NmsRun
public import proofs.«01_k».proof.Proof.Peaks
public import Idealize.ShloMosaic.Lib.Pointwise

@[expose] public section

set_option maxRecDepth 16384

/-! # What the second launch computes, entry by entry -/

noncomputable section
namespace Cert.KernelIdeal.Value
open Idealize.ShloMosaic Idealize.ShloMosaic.TcCoe
open Cert.KernelIdeal Cert.KernelIdeal.Gen Cert.Spec Cert.KernelIdeal.Nms

theorem ring_ladder (X : ℕ → ℕ → EReal) (i j : ℕ) :
    (if _h : j < 194 then
      if _h : j < 2 then (((((0#32 : BitVec 32).toInt : ℝ)) : EReal))
      else if _h : i < 194 then if _h : i < 2 then ((((0#32 : BitVec 32).toInt : ℝ)) : EReal) else X (i - 2) (j - 2) else ((((0#32 : BitVec 32).toInt : ℝ)) : EReal)
    else ((((0#32 : BitVec 32).toInt : ℝ)) : EReal)) = ring X i j := by
  have h0 : ((((0#32 : BitVec 32).toInt : ℝ)) : EReal) = 0 := by simp
  rw [h0]
  unfold ring
  split_ifs <;> first | rfl | omega

theorem padded_at (x : FVec Ideal S1x192x192 .f32) (X : ℕ → ℕ → EReal) (hx : ∀ i j : Fin 192, x (ix3 0 i j) = X i.val j.val)
    (i j : Fin 196) : padded (F := Ideal) x (ix2 i j) = ring X i.val j.val := by
  have hi := i.isLt
  have hj := j.isLt
  pointwise [padded, hx]
  exact ring_ladder X i.val j.val

theorem pad2_at (x : FVec Ideal S192x192 .f32) (X : ℕ → ℕ → EReal) (hx : ∀ i j : Fin 192, x (ix2 i j) = X i.val j.val)
    (i j : Fin 196) : pad2 (F := Ideal) x (ix2 i j) = ring X i.val j.val := by
  have hi := i.isLt
  have hj := j.isLt
  pointwise [pad2, hx]
  exact ring_ladder X i.val j.val

theorem rowSum_at (p : FVec Ideal S196x196 .f32) (P : ℕ → ℕ → EReal) (hp : ∀ i j : Fin 196, p (ix2 i j) = P i.val j.val)
    (i : Fin 196) (j : Fin 192) : rowSum (F := Ideal) p (ix2 i j) = five fun b => P i.val (j.val + b) := by
  pointwise [rowSum, hp]
  simp only [five, Nat.add_zero, Nat.add_comm]

theorem colSum_at (p : FVec Ideal S196x192 .f32) (P : ℕ → ℕ → EReal) (hp : ∀ (i : Fin 196) (j : Fin 192), p (ix2 i j) = P i.val j.val)
    (i : Fin 192) (j : Fin 192) : colSum (F := Ideal) p (ix2 i j) = five fun a => P (i.val + a) j.val := by
  pointwise [colSum, hp]
  simp only [five, Nat.add_zero, Nat.add_comm]

theorem rowMax_at (p : FVec Ideal S196x196 .f32) (P : ℕ → ℕ → EReal) (hp : ∀ i j : Fin 196, p (ix2 i j) = P i.val j.val)
    (i : Fin 196) (j : Fin 192) : rowMax (F := Ideal) p (ix2 i j) = top fun b => P i.val (j.val + b) := by
  pointwise [rowMax, hp]
  simp only [top, Nat.add_zero, Nat.add_comm]

theorem colMax_at (p : FVec Ideal S196x192 .f32) (P : ℕ → ℕ → EReal) (hp : ∀ (i : Fin 196) (j : Fin 192), p (ix2 i j) = P i.val j.val)
    (i : Fin 192) (j : Fin 192) : colMax (F := Ideal) p (ix2 i j) = top fun a => P (i.val + a) j.val := by
  pointwise [colMax, hp]
  simp only [top, Nat.add_zero, Nat.add_comm]

theorem select_at (s t : FVec Ideal S192x192 .f32) (i j : Fin 192) :
    select (cmpf .oeq s t) s (broadcast S192x192 (Scalar.ofBits (F := Ideal) .f32 0x00000000#32)) (ix2 i j)
      = if s (ix2 i j) = t (ix2 i j) then s (ix2 i j) else 0 := by
  pointwise []

open Classical in
theorem peaks_at (x : FVec Ideal S1x192x192 .f32) (X : ℕ → ℕ → EReal) (hx : ∀ i j : Fin 192, x (ix3 0 i j) = X i.val j.val)
    (i j : Fin 192) : peaks (F := Ideal) x (ix2 i j) = peak X i.val j.val := by
  have hs : ∀ i j : Fin 192, colSum (F := Ideal) (rowSum (padded x)) (ix2 i j) = total X i.val j.val := by
    intro i j
    exact colSum_at _ (fun h w => five fun b => ring X h (w + b)) (fun i j => rowSum_at _ (ring X) (fun i j => padded_at x X hx i j) i j) i j
  have ht : colMax (F := Ideal) (rowMax (pad2 (colSum (rowSum (padded x))))) (ix2 i j)
      = top fun a => top fun b => ring (total X) (i.val + a) (j.val + b) :=
    colMax_at _ (fun h w => top fun b => ring (total X) h (w + b)) (fun i j => rowMax_at _ (ring (total X)) (fun i j => pad2_at _ (total X) hs i j) i j) i j
  refine (select_at _ _ i j).trans ?_
  rw [hs, ht]
  unfold peak
  exact if_congr (peak_top X _ _ i.isLt j.isLt) rfl rfl

end Cert.KernelIdeal.Value
end
-- ==== Proof.Words.lean ====
module

public import Idealize.ShloMosaic.Lib.Pointwise
public import Idealize.ShloMosaic.Lib.Routing.Words

@[expose] public section

/-! # Words that hold small numbers, and folds with a winner -/

noncomputable section
namespace Cert.Spec
open Idealize.ShloMosaic

theorem word_eq_iff {a b : ℕ} (ha : a < 2 ^ 32) (hb : b < 2 ^ 32) : BitVec.ofNat 32 a = BitVec.ofNat 32 b ↔ a = b := by
  constructor
  · intro h
    have h' := congrArg BitVec.toNat h
    rw [BitVec.toNat_ofNat, BitVec.toNat_ofNat, Nat.mod_eq_of_lt ha, Nat.mod_eq_of_lt hb] at h'
    exact h'
  · rintro rfl; rfl

theorem word_toInt {a : ℕ} (ha : a < 2 ^ 31) : (BitVec.ofNat 32 a).toInt = a := by
  have h : (BitVec.ofNat 32 a).toNat = a := by rw [BitVec.toNat_ofNat]; exact Nat.mod_eq_of_lt (by omega)
  rw [BitVec.toInt_eq_toNat_of_lt (by omega), h]

theorem word_add (a b : ℕ) : IntOp.addi (BitVec.ofNat 32 a) (BitVec.ofNat 32 b) = BitVec.ofNat 32 (a + b) :=
  (BitVec.ofNat_add a b).symm

theorem word_mul (a b : ℕ) : IntOp.muli (BitVec.ofNat 32 a) (BitVec.ofNat 32 b) = BitVec.ofNat 32 (a * b) :=
  (BitVec.ofNat_mul a b).symm

theorem word_sub {a b : ℕ} (h : b ≤ a) : IntOp.subi (BitVec.ofNat 32 a) (BitVec.ofNat 32 b) = BitVec.ofNat 32 (a - b) := by
  have h' : a = (a - b) + b := by omega
  show BitVec.ofNat 32 a - BitVec.ofNat 32 b = _
  conv_lhs => rw [h', BitVec.ofNat_add]
  exact BitVec.add_sub_cancel _ _

theorem least_left (g b : BitVec 32) (h : g.toInt ≤ b.toInt) : IntOp.minsi g b = g := by
  unfold IntOp.minsi
  split
  · rfl
  · next h' =>
    rw [BitVec.slt, decide_eq_true_eq] at h'
    exact BitVec.eq_of_toInt_eq (by omega)

theorem least_right (g a : BitVec 32) (h : g.toInt ≤ a.toInt) : IntOp.minsi a g = g := by
  unfold IntOp.minsi
  split
  · next h' =>
    rw [BitVec.slt, decide_eq_true_eq] at h'
    omega
  · rfl

theorem least_le (g a b : BitVec 32) (ha : g.toInt ≤ a.toInt) (hb : g.toInt ≤ b.toInt) : g.toInt ≤ (IntOp.minsi a b).toInt := by
  unfold IntOp.minsi
  split <;> assumption

/-- A fold over a set ends with an entry that beats every other. -/
theorem fold_best {ι α : Type} (f : α → α → α) [Std.Commutative f] [Std.Associative f] (g : α) (le : α → Prop)
    (hf : ∀ a b, le a → le b → le (f a b)) (hl : ∀ b, le b → f g b = g) (hr : ∀ a, le a → f a g = g) (x : ι → α) (a : α) (ha : le a)
    (s : Finset ι) (hx : ∀ i, le (x i)) : le (s.fold f a x) ∧ ((∃ i ∈ s, x i = g) → s.fold f a x = g) := by
  classical
  induction s using Finset.induction_on with
  | empty => exact ⟨ha, fun ⟨i, h, _⟩ => absurd h (Finset.notMem_empty i)⟩
  | insert i s hi ih =>
    rw [Finset.fold_insert hi]
    refine ⟨hf _ _ (hx i) ih.1, ?_⟩
    rintro ⟨j, hj, e⟩
    rcases Finset.mem_insert.mp hj with rfl | hj
    · rw [e]; exact hl _ ih.1
    · rw [ih.2 ⟨j, hj, e⟩]; exact hr _ (hx i)

end Cert.Spec
end
-- ==== Proof.NmsRounds.lean ====
module

public import proofs.«01_k».proof.Proof.NmsValue
public import proofs.«01_k».proof.Proof.Words

@[expose] public section

set_option maxRecDepth 16384

/-! # The rounds of the second launch

Round `n` finds the place of the `n`-th greatest peak, stores the window around it and takes it out. -/

noncomputable section
namespace Cert.KernelIdeal.Value
open Idealize.ShloMosaic Idealize.ShloMosaic.TcCoe
open Cert.KernelIdeal Cert.KernelIdeal.Gen Cert.Spec Cert.KernelIdeal.Nms

theorem places_at (i j : Fin 192) : places (ix2 i j) = BitVec.ofNat 32 (i.val * 192 + j.val) := by
  pointwise [places]
  rw [show (192#32 : BitVec 32) = BitVec.ofNat 32 192 from rfl, word_mul, word_add]

theorem without_at (w : FVec Ideal S192x192 .f32) (k : BitVec 32) (i j : Fin 192) :
    without (F := Ideal) w k (ix2 i j) = if places (ix2 i j) = k then (-1 : EReal) else w (ix2 i j) := by
  unfold without
  pointwise []
  have h : Ideal.ofBits FTy.f32 3212836864#32 = (-1 : EReal) := by
    have h' : Ideal.ofBits FTy.f32 3212836864#32 = ((-(1 : ℝ) : ℝ) : EReal) := by
      simp [Ideal.ofBits, Ideal.ieee, -EReal.coe_mul, -EReal.coe_neg]; norm_num
    rw [h', EReal.coe_neg, EReal.coe_one]
  rw [h]
  by_cases e : places (ix2 i j) = k
  · rw [if_pos e, e]
    simp [Scalar.select, IntOp.cmpi]
  · rw [if_neg e]
    have hb : (places (ix2 i j) == k) = false := beq_eq_false_iff_ne.mpr e
    simp [Scalar.select, IntOp.cmpi, hb]

theorem rowOf_word (k : ℕ) (hk : k < 36864) : rowOf (BitVec.ofNat 32 k) = BitVec.ofNat 32 (k / 192) := by
  have hd : Scalar.divsi (BitVec.ofNat 32 k) 192#32 = BitVec.ofNat 32 (k / 192) :=
    Routing.divsi_word _ (b := 192) (by omega) (by omega) (by omega)
  unfold rowOf
  rw [hd]
  have h : Scalar.andi (Scalar.cmpi .ne (Scalar.subi (Scalar.extui (Scalar.cmpi .sgt (BitVec.ofNat 32 k) 0#32) : BitVec 32) (Scalar.extui (Scalar.cmpi .slt (BitVec.ofNat 32 k) 0#32)))
      (Scalar.subi (Scalar.extui (Scalar.cmpi .sgt 192#32 0#32)) (Scalar.extui (Scalar.cmpi .slt 192#32 0#32))))
    (Scalar.cmpi .ne (Scalar.remsi (BitVec.ofNat 32 k) 192#32) 0#32) = 0#1 := by
    rcases Nat.eq_zero_or_pos k with rfl | h0
    · have hr : Scalar.remsi (BitVec.ofNat 32 0) 192#32 = BitVec.ofNat 32 (0 % 192) :=
        Routing.remsi_word _ (b := 192) (by omega) (by omega) (by omega)
      rw [hr]
      decide +kernel
    · have h1 : Scalar.cmpi .sgt (BitVec.ofNat 32 k) 0#32 = 1#1 := by
        show BitVec.ofBool ((0#32).slt (BitVec.ofNat 32 k)) = 1#1
        rw [BitVec.slt, show (0#32 : BitVec 32).toInt = 0 from rfl, word_toInt (by omega), decide_eq_true (by omega)]
        rfl
      have h2 : Scalar.cmpi .slt (BitVec.ofNat 32 k) 0#32 = 0#1 := by
        show BitVec.ofBool ((BitVec.ofNat 32 k).slt (0#32)) = 0#1
        rw [BitVec.slt, show (0#32 : BitVec 32).toInt = 0 from rfl, word_toInt (by omega), decide_eq_false (by omega)]
        rfl
      rw [h1, h2]
      have h3 : ∀ z : BitVec 1, Scalar.andi (Scalar.cmpi .ne (Scalar.subi (Scalar.extui (1#1 : BitVec 1) : BitVec 32) (Scalar.extui (0#1 : BitVec 1)))
        (Scalar.subi (Scalar.extui (Scalar.cmpi .sgt 192#32 0#32)) (Scalar.extui (Scalar.cmpi .slt 192#32 0#32)))) z = 0#1 := by decide +kernel
      exact h3 _
  rw [h]
  rfl

theorem colOf_word (k : ℕ) (hk : k < 36864) : colOf (BitVec.ofNat 32 k) = BitVec.ofNat 32 (k % 192) := by
  unfold colOf
  rw [rowOf_word k hk]
  show IntOp.subi (BitVec.ofNat 32 k) (IntOp.muli (BitVec.ofNat 32 (k / 192)) (BitVec.ofNat 32 192)) = _
  rw [word_mul, word_sub (by omega)]
  congr 1
  omega

/-- A map of 192 by 192 that holds a list's entries row by row. -/
def Holds (w : FVec Ideal S192x192 .f32) (q : Fin 36864 → EReal) : Prop :=
  ∀ (i j : Fin 192), w (ix2 i j) = q ⟨i.val * 192 + j.val, by omega⟩

theorem holds_at (w : FVec Ideal S192x192 .f32) (q : Fin 36864 → EReal) (h : Holds w q) (k : Fin 36864) :
    w (ix2 ⟨k.val / 192, by omega⟩ ⟨k.val % 192, by omega⟩) = q k := by
  rw [h]
  congr 1
  apply Fin.ext
  show k.val / 192 * 192 + k.val % 192 = k.val
  omega

theorem greatest_eq (w : FVec Ideal S192x192 .f32) (q : Fin 36864 → EReal) (h : Holds w q) (g : Fin 36864) (hg : ∀ k, q k ≤ q g) :
    greatest (F := Ideal) w = q g := by
  unfold greatest
  pointwise []
  refine (fold_best max (q g) (fun a => a ≤ q g) (fun _ _ h h' => max_le h h') (fun b h => max_eq_left h) (fun a h => max_eq_right h)
    (fun x : Fin 192 × Fin 192 => w (ix2 x.1 x.2)) _ ?_ Finset.univ ?_).2
    ⟨(⟨g.val / 192, by omega⟩, ⟨g.val % 192, by omega⟩), Finset.mem_univ _, holds_at w q h g⟩
  · have h0 : Ideal.ofBits FTy.f32 4286578688#32 = ⊥ := by simp [Ideal.ofBits, Ideal.ieee]
    rw [h0]; exact bot_le
  · intro x
    rw [h]
    exact hg _

theorem best_eq (w : FVec Ideal S192x192 .f32) (q : Fin 36864 → EReal) (h : Holds w q) (g : Fin 36864) (hg : ∀ k, q k ≤ q g)
    (h1 : ∀ k, q k = q g → g ≤ k) : best (F := Ideal) w = BitVec.ofNat 32 g.val := by
  have hG := greatest_eq w q h g hg
  have hgi := word_toInt (a := g.val) (by omega)
  unfold best
  pointwise []
  refine (fold_best IntOp.minsi (BitVec.ofNat 32 g.val) (fun a => (BitVec.ofNat 32 g.val).toInt ≤ a.toInt) (fun a b => least_le _ a b)
    (least_left _) (least_right _)
    (fun x : Fin 192 × Fin 192 => if w (ix2 x.1 x.2) = greatest (F := Ideal) w then places (ix2 x.1 x.2) else 1073741824#32) _ ?_ Finset.univ ?_).2
    ⟨(⟨g.val / 192, by omega⟩, ⟨g.val % 192, by omega⟩), Finset.mem_univ _, ?_⟩
  · rw [hgi]
    have : (2147483647#32 : BitVec 32).toInt = 2147483647 := by decide
    omega
  · intro x
    rw [hG, hgi]
    split
    · next e =>
      rw [places_at, word_toInt (by omega)]
      rw [h] at e
      have := h1 _ e
      rw [Fin.le_def] at this
      exact_mod_cast this
    · have : (1073741824#32 : BitVec 32).toInt = 1073741824 := by decide
      omega
  · dsimp only
    rw [hG, holds_at w q h g, if_pos rfl, places_at]
    exact congrArg (BitVec.ofNat 32) (show g.val / 192 * 192 + g.val % 192 = g.val by omega)

theorem stage_holds (w : FVec Ideal S192x192 .f32) (q : Fin 36864 → EReal) (h : Holds w q) (hq : ∀ k, 0 ≤ q k) (n : ℕ) (hn : n < 36864) :
    Holds (stage (F := Ideal) w n) (left q n) := by
  induction n with
  | zero => rw [left_zero]; exact h
  | succ n ih =>
    have ih := ih (by omega)
    have hb : best (F := Ideal) (stage w n) = BitVec.ofNat 32 (order q ⟨n, by omega⟩).val :=
      best_eq _ _ ih (order q ⟨n, by omega⟩)
        (fun k => (left_le q hq ⟨n, by omega⟩ k).trans (left_at q ⟨n, by omega⟩).symm.le)
        (fun k e => left_first q hq ⟨n, by omega⟩ k (e.trans (left_at q ⟨n, by omega⟩)))
    intro i j
    have e : stage (F := Ideal) w (n + 1) = without (stage w n) (best (stage w n)) := rfl
    rw [e]
    rw [without_at, hb, places_at, ih, left_succ q ⟨n, by omega⟩]
    refine if_congr ?_ rfl rfl
    rw [word_eq_iff (by omega) (by omega), Fin.ext_iff]

theorem best_stage (w : FVec Ideal S192x192 .f32) (q : Fin 36864 → EReal) (h : Holds w q) (hq : ∀ k, 0 ≤ q k) (n : Fin 36864) :
    best (F := Ideal) (stage w n.val) = BitVec.ofNat 32 (order q n).val :=
  best_eq _ _ (stage_holds w q h hq n.val n.isLt) (order q n) (fun k => (left_le q hq n k).trans (left_at q n).symm.le)
    (fun k e => left_first q hq n k (e.trans (left_at q n)))

end Cert.KernelIdeal.Value
end
-- ==== Proof.NmsWindow.lean ====
module

public import proofs.«01_k».proof.Proof.NmsRounds

@[expose] public section

set_option maxRecDepth 16384

/-! # The window around a place, chosen by products with rows and columns of zeros and a one -/

noncomputable section
namespace Cert.KernelIdeal.Value
open Idealize.ShloMosaic Idealize.ShloMosaic.TcCoe
open Cert.KernelIdeal Cert.KernelIdeal.Gen Cert.Spec Cert.KernelIdeal.Nms

theorem onehot (x r i : ℕ) (hx : x < 2 ^ 16) (hr : r < 2 ^ 16) (hi : i < 2 ^ 16) :
    (FloatOps.sitofp (F := Ideal) FTy.f32 (BitVec.setWidth 32 (IntOp.cmpi CmpIPredicate.eq (BitVec.ofNat 32 x)
      (IntOp.addi (BitVec.ofNat 32 r) (BitVec.ofNat 32 i)))) : EReal) = if x = r + i then 1 else 0 := by
  rw [word_add]
  by_cases e : x = r + i
  · rw [if_pos e, e]
    have h : IntOp.cmpi CmpIPredicate.eq (BitVec.ofNat 32 (r + i)) (BitVec.ofNat 32 (r + i)) = 1#1 := by simp [IntOp.cmpi]
    rw [h]
    show (((BitVec.setWidth 32 (1#1)).toInt : ℝ) : EReal) = 1
    simp
  · rw [if_neg e]
    have h : IntOp.cmpi CmpIPredicate.eq (BitVec.ofNat 32 x) (BitVec.ofNat 32 (r + i)) = 0#1 := by
      have : (BitVec.ofNat 32 x == BitVec.ofNat 32 (r + i)) = false :=
        beq_eq_false_iff_ne.mpr fun h => e ((word_eq_iff (by omega) (by omega)).mp h)
      simp [IntOp.cmpi, this]
    rw [h]
    show (((BitVec.setWidth 32 (0#1)).toInt : ℝ) : EReal) = 0
    simp

theorem window_at (p : FVec Ideal S196x196 .f32) (P : ℕ → ℕ → EReal) (hp : ∀ i j : Fin 196, p (ix2 i j) = P i.val j.val) (k : BitVec 32) (r c : ℕ)
    (hr : rowOf k = BitVec.ofNat 32 r) (hc : colOf k = BitVec.ofNat 32 c) (h1 : r < 192) (h2 : c < 192) (i j : Fin 5) :
    window (F := Ideal) p k (ix2 i j) = P (r + i.val) (c + j.val) := by
  have hi := i.isLt
  have hj := j.isLt
  pointwise [window, rowPick, colPick, hp, hr, hc]
  have e1 : ∀ x : Fin 196, (x.val = r + i.val) ↔ (x = ⟨r + i.val, by omega⟩) := fun x => by rw [Fin.ext_iff]
  have e2 : ∀ x : Fin 196, (x.val = c + j.val) ↔ (x = ⟨c + j.val, by omega⟩) := fun x => by rw [Fin.ext_iff]
  have g1 : ∀ x : Fin 196, (FloatOps.sitofp (F := Ideal) FTy.f32 (BitVec.setWidth 32 (IntOp.cmpi CmpIPredicate.eq (BitVec.ofNat 32 x.val)
      (IntOp.addi (BitVec.ofNat 32 r) (BitVec.ofNat 32 i.val)))) : EReal) = if x = ⟨r + i.val, by omega⟩ then 1 else 0 := fun x => by
    rw [onehot x.val r i.val (by omega) (by omega) (by omega)]
    exact if_congr (e1 x) rfl rfl
  have g2 : ∀ x : Fin 196, (FloatOps.sitofp (F := Ideal) FTy.f32 (BitVec.setWidth 32 (IntOp.cmpi CmpIPredicate.eq (BitVec.ofNat 32 x.val)
      (IntOp.addi (BitVec.ofNat 32 c) (BitVec.ofNat 32 j.val)))) : EReal) = if x = ⟨c + j.val, by omega⟩ then 1 else 0 := fun x => by
    rw [onehot x.val c j.val (by omega) (by omega) (by omega)]
    exact if_congr (e2 x) rfl rfl
  simp only [g1, g2, ite_mul, mul_ite, one_mul, zero_mul, mul_one, mul_zero, Finset.sum_ite_eq', Finset.mem_univ, if_true, Finset.sum_ite_eq]

end Cert.KernelIdeal.Value
end
-- ==== Proof.NmsOut.lean ====
module

public import proofs.«01_k».proof.Proof.NmsWindow

@[expose] public section

set_option maxRecDepth 16384

/-! # What a block of the second launch stores -/

noncomputable section
namespace Cert.KernelIdeal.Value
open Idealize.ShloMosaic Idealize.ShloMosaic.TcCoe
open Cert.KernelIdeal Cert.KernelIdeal.Gen Cert.Spec Cert.KernelIdeal.Nms

theorem corners_at (k : BitVec 32) (i : Fin 4) : corners k (ix1 i) = corner (rowOf k) (colOf k) i.val := by
  pointwise [corners]
  unfold corner inside
  split_ifs <;> rfl

theorem peaks_hold (x : FVec Ideal S1x192x192 .f32) (X : ℕ → ℕ → EReal) (hx : ∀ i j : Fin 192, x (ix3 0 i j) = X i.val j.val) :
    Holds (peaks (F := Ideal) x) (listed X) := by
  intro i j
  rw [peaks_at x X hx]
  unfold listed
  have h1 : (i.val * 192 + j.val) / 192 = i.val := by omega
  have h2 : (i.val * 192 + j.val) % 192 = j.val := by omega
  simp only [h1, h2]

theorem best_spot (x : FVec Ideal S1x192x192 .f32) (X : ℕ → ℕ → EReal) (hx : ∀ i j : Fin 192, x (ix3 0 i j) = X i.val j.val)
    (h0 : ∀ i j, 0 ≤ X i j) (n : Fin 32) : best (F := Ideal) (stage (peaks x) n.val) = BitVec.ofNat 32 (spot X n) :=
  best_stage _ _ (peaks_hold x X hx) (fun _ => peak_nonneg X h0 _ _) ⟨n.val, by omega⟩

theorem outWin_eq (p : FVec Ideal S196x196 .f32) (w : FVec Ideal S192x192 .f32) (n : Fin 32) (i j : Fin 5) :
    outWin (F := Ideal) p w (ix4 0 n i j) = window p (best (stage w n.val)) (ix2 i j) := by
  have h : ∀ v : FVec Ideal S192x192 .f32, winRow (F := Ideal) p v (ix4 0 0 i j) = window p (best v) (ix2 i j) := by
    intro v
    unfold winRow
    pointwise []
  exact h (stage w n.val)

theorem outPos_eq (w : FVec Ideal S192x192 .f32) (n : Fin 32) (i : Fin 4) :
    outPos (F := Ideal) w (ix3 0 n i) = corners (best (stage w n.val)) (ix1 i) := by
  have h : ∀ v : FVec Ideal S192x192 .f32, posRow (F := Ideal) v (ix3 0 0 i) = corners (best v) (ix1 i) := by
    intro v
    unfold posRow
    pointwise []
  exact h (stage w n.val)

/-- The window stored for the `n`-th greatest peak. -/
theorem outWin_at (x : FVec Ideal S1x192x192 .f32) (X : ℕ → ℕ → EReal) (hx : ∀ i j : Fin 192, x (ix3 0 i j) = X i.val j.val)
    (h0 : ∀ i j, 0 ≤ X i j) (n : Fin 32) (i j : Fin 5) :
    outWin (F := Ideal) (padded x) (peaks x) (ix4 0 n i j) = ring X (spot X n / 192 + i.val) (spot X n % 192 + j.val) := by
  have hk := spot_lt X n
  have hb := best_spot x X hx h0 n
  have hp := fun i j => padded_at x X hx i j
  rw [outWin_eq, hb]
  generalize spot X n = k at hk
  exact window_at _ (ring X) hp _ _ _ (rowOf_word k hk) (colOf_word k hk) (by omega) (by omega) i j

/-- The corners stored for the `n`-th greatest peak. -/
theorem outPos_at (x : FVec Ideal S1x192x192 .f32) (X : ℕ → ℕ → EReal) (hx : ∀ i j : Fin 192, x (ix3 0 i j) = X i.val j.val)
    (h0 : ∀ i j, 0 ≤ X i j) (n : Fin 32) (i : Fin 4) :
    outPos (F := Ideal) (peaks x) (ix3 0 n i) = corner (BitVec.ofNat 32 (spot X n / 192)) (BitVec.ofNat 32 (spot X n % 192)) i.val := by
  have hk := spot_lt X n
  have hb := best_spot x X hx h0 n
  rw [outPos_eq, hb, corners_at]
  generalize spot X n = k at hk
  rw [rowOf_word k hk, colOf_word k hk]

end Cert.KernelIdeal.Value
end
-- ==== Proof.Arrays.lean ====
module

public import proofs.«01_k».proof.Proof.Launched
public import proofs.«01_k».proof.Proof.DenseValue
public import proofs.«01_k».proof.Proof.NmsOut
public import Idealize.ShloMosaic.Lib.Pipeline.ValueKit

@[expose] public section

set_option maxRecDepth 16384

/-! # The arrays the two calls leave -/

noncomputable section
namespace Cert.KernelIdeal.Run
open Idealize.ShloMosaic Idealize.ShloMosaic.TcCoe Idealize.ShloMosaic.Tactic
open Idealize.ShloMosaic.Pipeline (Dat)
open Cert.KernelIdeal Cert.KernelIdeal.Gen Cert.Spec

variable (V : Valuation τ sig (Elt Ideal)) (c : Dev nD)

/-- The first call's index maps. -/
theorem idx0 : ∀ t : Fin cfg0.N, win0_0.index t = ![(grid0.coords t 0).val, 0, 0, 0] ∧ win0_1.index t = ![0, 0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![(grid0.coords t 0).val, 0, (grid0.coords t 1).val, 0] :=
  (by decide +kernel : ∀ t : Fin grid0.N, _)

/-- The second call's index maps. -/
theorem idx1 : ∀ t : Fin cfg1.N, win1_0.index t = ![t.val, 0, 0] ∧ win1_1.index t = ![t.val, 0, 0, 0] ∧ win1_2.index t = ![t.val, 0, 0] :=
  (by decide +kernel : ∀ t : Fin grid1.N, _)

/-- The block of the image. -/
theorem image_block (t : Fin cfg0.N) (o : Fin 64) (q : Fin 100) (k : Fin 96) :
    (blk0 V 0 t : FVec Ideal S1x64x100x96 .f32) (ix4 0 o q k)
      = (V (Proc.devRef .tc main_v5) : FVec Ideal S2x64x100x96 .f32) (ix4 (grid0.coords t 0) o q k) := by
  blk_point [blk0, idx0 t]

/-! The other blocks are their whole arrays. -/

theorem block1 (t : Fin cfg0.N) : (blk0 V 1 t : FVec Ideal S9x64x64 .bf16) = V (Proc.devRef .tc main_v2) := by
  blk_ext! [blk0, idx0 t]

theorem block2 (t : Fin cfg0.N) : (blk0 V 2 t : FVec Ideal S64x1 .f32) = V (Proc.devRef .tc main_v6) := by
  blk_ext! [blk0, idx0 t]

theorem block3 (t : Fin cfg0.N) : (blk0 V 3 t : FVec Ideal S64x1 .f32) = V (Proc.devRef .tc main_v7) := by
  blk_ext! [blk0, idx0 t]

theorem block4 (t : Fin cfg0.N) : (blk0 V 4 t : FVec Ideal S64x1 .f32) = V (Proc.devRef .tc main_v8) := by
  blk_ext! [blk0, idx0 t]

theorem block5 (t : Fin cfg0.N) : (blk0 V 5 t : FVec Ideal S64x1 .f32) = V (Proc.devRef .tc main_v9) := by
  blk_ext! [blk0, idx0 t]

theorem block6 (t : Fin cfg0.N) : (blk0 V 6 t : FVec Ideal S64x1 .f32) = V (Proc.devRef .tc main_v10) := by
  blk_ext! [blk0, idx0 t]

theorem block7 (t : Fin cfg0.N) : (blk0 V 7 t : FVec Ideal S32x64 .bf16) = V (Proc.devRef .tc main_v4) := by
  blk_ext! [blk0, idx0 t]

theorem block8 (t : Fin cfg0.N) : (blk0 V 8 t : FVec Ideal S32x1 .f32) = V (Proc.devRef .tc main_v11) := by
  blk_ext! [blk0, idx0 t]

theorem block9 (t : Fin cfg0.N) : (blk0 V 9 t : FVec Ideal S32x1 .f32) = V (Proc.devRef .tc main_v12) := by
  blk_ext! [blk0, idx0 t]

theorem block10 (t : Fin cfg0.N) : (blk0 V 10 t : FVec Ideal S32x1 .f32) = V (Proc.devRef .tc main_v13) := by
  blk_ext! [blk0, idx0 t]

theorem block11 (t : Fin cfg0.N) : (blk0 V 11 t : FVec Ideal S32x1 .f32) = V (Proc.devRef .tc main_v14) := by
  blk_ext! [blk0, idx0 t]

/-- The block of the map. -/
theorem map_block (t : Fin cfg1.N) (i j : Fin 192) :
    (blk1 V 0 t : FVec Ideal S1x192x192 .f32) (ix3 0 i j) = (V (Proc.devRef .tc main_v16) : FVec Ideal S64x192x192 .f32) (ix3 t i j) := by
  blk_point [blk1, idx1 t]

theorem out_of (x : FVec Ideal S1x32x8x192 .f32) (G : Fin 32 → Fin 8 → Fin 192 → EReal) (h : ∀ o r w, x (ix4 0 o r w) = G o r w)
    (j : S1x32x8x192.Idx) : x j = G (j 1) (j 2) (j 3) := by
  refine Eq.trans (congrArg x (funext fun a => ?_)) (h (j 1) (j 2) (j 3))
  match a with
  | ⟨0, _⟩ => exact Subsingleton.elim (α := Fin 1) _ _
  | ⟨1, _⟩ => rfl
  | ⟨2, _⟩ => rfl
  | ⟨3, _⟩ => rfl

theorem wins_of (x : FVec Ideal S1x32x5x5 .f32) (G : Fin 32 → Fin 5 → Fin 5 → EReal) (h : ∀ n i k, x (ix4 0 n i k) = G n i k)
    (j : S1x32x5x5.Idx) : x j = G (j 1) (j 2) (j 3) := by
  refine Eq.trans (congrArg x (funext fun a => ?_)) (h (j 1) (j 2) (j 3))
  match a with
  | ⟨0, _⟩ => exact Subsingleton.elim (α := Fin 1) _ _
  | ⟨1, _⟩ => rfl
  | ⟨2, _⟩ => rfl
  | ⟨3, _⟩ => rfl

theorem pos_of (x : IVec S1x32x4 32) (G : Fin 32 → Fin 4 → BitVec 32) (h : ∀ n i, x (ix3 0 n i) = G n i) (j : S1x32x4.Idx) :
    x j = G (j 1) (j 2) := by
  refine Eq.trans (congrArg x (funext fun a => ?_)) (h (j 1) (j 2))
  match a with
  | ⟨0, _⟩ => exact Subsingleton.elim (α := Fin 1) _ _
  | ⟨1, _⟩ => rfl
  | ⟨2, _⟩ => rfl

/-- The first call's map. -/
theorem map_array (P : Fin 2 → Fin 64 → ℕ → ℕ → EReal) (hP : ∀ b o i, P b o i 96 = P b o i 95)
    (hV : ∀ b o (q : Fin 100) (k : Fin 96), (V (Proc.devRef .tc main_v5) : FVec Ideal S2x64x100x96 .f32) (ix4 b o q k) = P b o (q.val - 2) k.val)
    (w₁ : Fin 9 → Fin 64 → Fin 64 → EReal) (h1 : ∀ k o i, (V (Proc.devRef .tc main_v2) : FVec Ideal S9x64x64 .bf16) (ix3 k o i) = w₁ k o i)
    (x2 x3 x4 x5 x6 : Fin 64 → EReal)
    (h2 : ∀ o, (V (Proc.devRef .tc main_v6) : FVec Ideal S64x1 .f32) (ix2 o 0) = x2 o)
    (h3 : ∀ o, (V (Proc.devRef .tc main_v7) : FVec Ideal S64x1 .f32) (ix2 o 0) = x3 o)
    (h4 : ∀ o, (V (Proc.devRef .tc main_v8) : FVec Ideal S64x1 .f32) (ix2 o 0) = x4 o)
    (h5 : ∀ o, (V (Proc.devRef .tc main_v9) : FVec Ideal S64x1 .f32) (ix2 o 0) = x5 o)
    (h6 : ∀ o, (V (Proc.devRef .tc main_v10) : FVec Ideal S64x1 .f32) (ix2 o 0) = x6 o)
    (w₂ : Fin 32 → Fin 64 → EReal) (h7 : ∀ o i, (V (Proc.devRef .tc main_v4) : FVec Ideal S32x64 .bf16) (ix2 o i) = w₂ o i)
    (x8 x9 x10 x11 : Fin 32 → EReal)
    (h8 : ∀ o, (V (Proc.devRef .tc main_v11) : FVec Ideal S32x1 .f32) (ix2 o 0) = x8 o)
    (h9 : ∀ o, (V (Proc.devRef .tc main_v12) : FVec Ideal S32x1 .f32) (ix2 o 0) = x9 o)
    (h10 : ∀ o, (V (Proc.devRef .tc main_v13) : FVec Ideal S32x1 .f32) (ix2 o 0) = x10 o)
    (h11 : ∀ o, (V (Proc.devRef .tc main_v14) : FVec Ideal S32x1 .f32) (ix2 o 0) = x11 o) :
    (dat0 V c).arrAt 12 cfg0.N
      = (fun i : S2x32x192x192.Idx => feature (P (i 0)) w₁ x2 x5 x6 x3 x4 w₂ x10 x11 x8 x9 (i 1) (i 2).val (i 3).val : FVec Ideal S2x32x192x192 .f32) := by
  refine (dat0 V c).arrAt_eq_of_covers 12 _ (by decide +kernel) fun t _ y => ?_
  blk_simp
  rw [after0_12]
  have e0 : (win0_12.blk t).view.emb y 0 = grid0.coords t 0 := Fin.ext (by blk_simp [idx0 t])
  have e1 : (win0_12.blk t).view.emb y 1 = y 1 := Fin.ext (by blk_simp [idx0 t])
  have e2 : win0_12.index t 2 * 8 + (y 2).val = 8 * (grid0.coords t 1).val + (y 2).val := by
    rw [(idx0 t).2.2.2.2.2.2.2.2.2.2.2.2]
    exact congrArg (· + (y 2).val) (Nat.mul_comm _ _)
  have e3 : win0_12.index t 3 * 192 + (y 3).val = (y 3).val := by
    rw [(idx0 t).2.2.2.2.2.2.2.2.2.2.2.2]
    exact Nat.zero_add _
  rw [e0, e1, e2, e3]
  refine (out_of _ _ (fun o r w => Value.out_at (grid0.coords t) (blk0 V 0 t) (blk0 V 1 t) (blk0 V 2 t) (blk0 V 3 t) (blk0 V 4 t) (blk0 V 5 t) (blk0 V 6 t) (blk0 V 7 t)
    (blk0 V 8 t) (blk0 V 9 t) (blk0 V 10 t) (blk0 V 11 t) (P (grid0.coords t 0)) (fun o q k => (image_block V t o q k).trans (hV _ o q k)) (hP _) o r w) y).trans ?_
  rw [block1, block2, block3, block4, block5, block6, block7, block8, block9, block10, block11]
  simp only [h1, h2, h3, h4, h5, h6, h7, h8, h9, h10, h11]

/-- The second call's windows. -/
theorem win_array (X : Fin 64 → ℕ → ℕ → EReal) (h0 : ∀ o i j, 0 ≤ X o i j)
    (hV : ∀ o (i j : Fin 192), (V (Proc.devRef .tc main_v16) : FVec Ideal S64x192x192 .f32) (ix3 o i j) = X o i.val j.val) :
    (dat1 V c).arrAt 1 cfg1.N
      = (fun i : S64x32x5x5.Idx => ring (X (i 0)) (spot (X (i 0)) (i 1) / 192 + (i 2).val) (spot (X (i 0)) (i 1) % 192 + (i 3).val) : FVec Ideal S64x32x5x5 .f32) := by
  refine (dat1 V c).arrAt_eq_of_covers 1 _ (by decide +kernel) fun t _ y => ?_
  blk_simp
  rw [after1_1]
  have e0 : (win1_1.blk t).view.emb y 0 = t := Fin.ext (by blk_simp [idx1 t])
  have e1 : (win1_1.blk t).view.emb y 1 = y 1 := Fin.ext (by blk_simp [idx1 t])
  have e2 : win1_1.index t 2 * 5 + (y 2).val = (y 2).val := by
    rw [(idx1 t).2.1]
    exact Nat.zero_add _
  have e3 : win1_1.index t 3 * 5 + (y 3).val = (y 3).val := by
    rw [(idx1 t).2.1]
    exact Nat.zero_add _
  rw [e0, e1, e2, e3]
  exact wins_of _ _ (fun n i k => Value.outWin_at (blk1 V 0 t) (X t) (fun i j => (map_block V t i j).trans (hV _ i j)) (h0 _) n i k) y

/-- The second call's corners. -/
theorem pos_array (X : Fin 64 → ℕ → ℕ → EReal) (h0 : ∀ o i j, 0 ≤ X o i j)
    (hV : ∀ o (i j : Fin 192), (V (Proc.devRef .tc main_v16) : FVec Ideal S64x192x192 .f32) (ix3 o i j) = X o i.val j.val) :
    (dat1 V c).arrAt 2 cfg1.N
      = (fun i : S64x32x4.Idx => corner (BitVec.ofNat 32 (spot (X (i 0)) (i 1) / 192)) (BitVec.ofNat 32 (spot (X (i 0)) (i 1) % 192)) (i 2).val : IVec S64x32x4 32) := by
  refine (dat1 V c).arrAt_eq_of_covers 2 _ (by decide +kernel) fun t _ y => ?_
  blk_simp
  rw [after1_2]
  have e0 : (win1_2.blk t).view.emb y 0 = t := Fin.ext (by blk_simp [idx1 t])
  have e1 : (win1_2.blk t).view.emb y 1 = y 1 := Fin.ext (by blk_simp [idx1 t])
  have e2 : win1_2.index t 2 * 4 + (y 2).val = (y 2).val := by
    rw [(idx1 t).2.2]
    exact Nat.zero_add _
  rw [e0, e1, e2]
  exact pos_of _ _ (fun n i => Value.outPos_at (blk1 V 0 t) (X t) (fun i j => (map_block V t i j).trans (hV _ i j)) (h0 _) n i) y

end Cert.KernelIdeal.Run
end
-- ==== Proof.Final.lean ====
module

public import proofs.«01_k».proof.Proof.HostIn
public import proofs.«01_k».proof.Proof.Arrays

@[expose] public section

set_option maxRecDepth 16384

/-! # What the program's two results hold -/

noncomputable section
namespace Cert.KernelIdeal.Run
open Idealize.ShloMosaic Idealize.ShloMosaic.TcCoe Idealize.ShloMosaic.Tactic
open Cert.KernelIdeal Cert.KernelIdeal.Gen Cert.Spec

variable (m : (ℓ : Loc nD τ sig) → Buf (Elt Ideal) ℓ) (c : Dev nD)

/-- The map, of the arguments. -/
def mapAt (b : Fin 2) (o : Fin 32) (i j : ℕ) : EReal :=
  feature (plane (m (c, Proc.devRef .tc main_arg0)) b)
    (fun k o i => (m (c, Proc.devRef .tc main_arg1) : FVec Ideal S64x64x3x3 .f32) (ix4 o i ⟨k.val / 3, by omega⟩ ⟨k.val % 3, by omega⟩))
    (fun o => (m (c, Proc.devRef .tc main_arg2) : FVec Ideal S64 .f32) (ix1 o)) (fun o => (m (c, Proc.devRef .tc main_arg5) : FVec Ideal S64 .f32) (ix1 o))
    (fun o => (m (c, Proc.devRef .tc main_arg6) : FVec Ideal S64 .f32) (ix1 o)) (fun o => (m (c, Proc.devRef .tc main_arg3) : FVec Ideal S64 .f32) (ix1 o))
    (fun o => (m (c, Proc.devRef .tc main_arg4) : FVec Ideal S64 .f32) (ix1 o))
    (fun o i => (m (c, Proc.devRef .tc main_arg7) : FVec Ideal S32x64x1x1 .f32) (ix4 o i 0 0))
    (fun o => (m (c, Proc.devRef .tc main_arg10) : FVec Ideal S32 .f32) (ix1 o)) (fun o => (m (c, Proc.devRef .tc main_arg11) : FVec Ideal S32 .f32) (ix1 o))
    (fun o => (m (c, Proc.devRef .tc main_arg8) : FVec Ideal S32 .f32) (ix1 o)) (fun o => (m (c, Proc.devRef .tc main_arg9) : FVec Ideal S32 .f32) (ix1 o))
    o i j

/-- A map's number among the sixty-four. -/
def oneOf (n : Fin 64) : Fin 2 × Fin 32 := (⟨n.val / 32, by omega⟩, ⟨n.val % 32, by omega⟩)

/-- The sixty-four maps. -/
abbrev maps (n : Fin 64) (i j : ℕ) : EReal := mapAt m c (oneOf n).1 (oneOf n).2 i j

theorem maps_nonneg (n : Fin 64) (i j : ℕ) : 0 ≤ maps m c n i j := feature_nonneg ..

theorem maps_of (b : Fin 2) (o : Fin 32) (h : b.val * 32 + o.val < 64) : maps m c ⟨b.val * 32 + o.val, h⟩ = mapAt m c b o := by
  have e : oneOf ⟨b.val * 32 + o.val, h⟩ = (b, o) := Prod.ext (Fin.ext (by dsimp only [oneOf]; omega)) (Fin.ext (by dsimp only [oneOf]; omega))
  funext i j
  show mapAt m c (oneOf ⟨b.val * 32 + o.val, h⟩).1 (oneOf ⟨b.val * 32 + o.val, h⟩).2 i j = _
  rw [e]

theorem map_read : V4 m c (Proc.devRef .tc main_v15) = (fun i : S2x32x192x192.Idx => mapAt m c (i 0) (i 1) (i 2).val (i 3).val : FVec Ideal S2x32x192x192 .f32) := by
  unfold V4
  refine (Pipeline.afterRegion_arr (dat0 (V3 m c) c) (V3 m c) launch0.win.arr_inj 12).trans ?_
  exact map_array (V3 m c) c (plane (m (c, Proc.devRef .tc main_arg0))) (fun b o i => plane_edge _ b o i) (image_read m c) _ (taps_read m c)
    _ _ _ _ _ (col2_read m c) (col3_read m c) (col4_read m c) (col5_read m c) (col6_read m c) _ (mix_read m c)
    _ _ _ _ (col8_read m c) (col9_read m c) (col10_read m c) (col11_read m c)

theorem maps_read (n : Fin 64) (i j : Fin 192) :
    (V5 m c (Proc.devRef .tc main_v16) : FVec Ideal S64x192x192 .f32) (ix3 n i j) = maps m c n i.val j.val := by
  unfold V5
  after_reads_simp
  rw [map_read]
  pointwise []
  rfl

theorem first_read (b : Fin 2) (o n : Fin 32) (i j : Fin 5) :
    (V7 m c (Proc.devRef .tc main_v18) : FVec Ideal S2x32x32x5x5 .f32) (ix5 b o n i j)
      = ring (mapAt m c b o) (spot (mapAt m c b o) n / 192 + i.val) (spot (mapAt m c b o) n % 192 + j.val) := by
  unfold V7
  after_reads_simp
  have h : V6 m c (Proc.devRef .tc main_v17_0) = _ :=
    (Pipeline.afterRegion_arr (dat1 (V5 m c) c) (V5 m c) launch1.win.arr_inj 1).trans (win_array (V5 m c) c (maps m c) (maps_nonneg m c) (maps_read m c))
  rw [h]
  pointwise []
  rw [maps_of]

theorem second_read (b : Fin 2) (o n : Fin 32) (i : Fin 4) :
    (V7 m c (Proc.devRef .tc main_v19) : IVec S2x32x32x4 32) (ix4 b o n i)
      = corner (BitVec.ofNat 32 (spot (mapAt m c b o) n / 192)) (BitVec.ofNat 32 (spot (mapAt m c b o) n % 192)) i.val := by
  unfold V7
  after_reads_simp
  have h : V6 m c (Proc.devRef .tc main_v17_1) = _ :=
    (Pipeline.afterRegion_arr (dat1 (V5 m c) c) (V5 m c) launch1.win.arr_inj 2).trans (pos_array (V5 m c) c (maps m c) (maps_nonneg m c) (maps_read m c))
  rw [h]
  pointwise []
  rw [maps_of]

end Cert.KernelIdeal.Run
end
-- ==== Proof.RefTerm.lean ====
module

public import proofs.«01_k».proof.ReferenceIdeal
public import proofs.«01_k».proof.Proof.Gen.ReferenceIdeal
public import proofs.«01_k».proof.Proof.Spec

@[expose] public section

set_option maxRecDepth 16384

/-! # The reference's results, stage by stage -/

noncomputable section
namespace Cert.ReferenceIdeal.Value
open Idealize.ShloMosaic Idealize.ShloMosaic.TcCoe
open Cert.ReferenceIdeal Cert.ReferenceIdeal.Gen

/-- A whole number kept between two bounds. -/
def clipped (x : IVec S2x32x32 32) (lo hi : IVec S_ 32) : IVec S2x32x32 32 :=
  minsi (broadcastInDim S2x32x32 ![] bcast_S_S2x32x32 hi : IVec S2x32x32 32)
    (maxsi (broadcastInDim S2x32x32 ![] bcast_S_S2x32x32 lo : IVec S2x32x32 32) x)

/-- Entries taken along the last axis. -/
def taken (x : FVec Ideal S2x32x38416 .f32) (at' : IVec S2x32x800 32) : FVec Ideal S2x32x800 .f32 :=
  have low : IVec S2x32x800 32 := broadcastInDim S2x32x800 ![] bcast_S_S2x32x800 (constantI S_ 32 0#32)
  have all : IVec S2x32x800 32 := broadcastInDim S2x32x800 ![] bcast_S_S2x32x800 (constantI S_ 32 38416#32)
  have place : IVec S2x32x800 32 := select (cmpi .slt at' low) (addi at' all) at'
  Host.gather gather_S2x32x38416_S2x32x800x1_S2x32x800_n_2_01_01_2_3_111 x (shapeCast S2x32x800x1 place shapeCasts_S2x32x800_S2x32x800x1)

/-- The rows doubled. -/
def refRows (arg0 : FVec Ideal S2x64x96x96 .f32) : FVec Ideal S2x64x192x96 .f32 :=
  have cst : FVec Ideal S_ .f32 := constant S_ .f32 0x3F400000#32
  have v6 : FVec Ideal S2x64x96x96 .f32 := broadcastInDim S2x64x96x96 ![] bcast_S_S2x64x96x96 cst
  have v7 : FVec Ideal S2x64x96x96 .f32 := mulf v6 arg0
  have cst_0 : FVec Ideal S_ .f32 := constant S_ .f32 0x3E800000#32
  have v8 : FVec Ideal S2x64x96x96 .f32 := broadcastInDim S2x64x96x96 ![] bcast_S_S2x64x96x96 cst_0
  have v0 : FVec Ideal S2x64x1x96 .f32 := extractStridedSlice S2x64x1x96 ![0, 0, 0, 0] arg0 slices_S2x64x96x96_S2x64x1x96_0_0_0_0
  have v1 : FVec Ideal S2x64x95x96 .f32 := extractStridedSlice S2x64x95x96 ![0, 0, 0, 0] arg0 slices_S2x64x96x96_S2x64x95x96_0_0_0_0
  have v2 : FVec Ideal S2x64x96x96 .f32 := concatenate S2x64x96x96 2 [⟨S2x64x1x96, v0⟩, ⟨S2x64x95x96, v1⟩] concatenates_S2x64x1x96_S2x64x95x96_S2x64x96x96_d2
  have v9 : FVec Ideal S2x64x96x96 .f32 := mulf v8 v2
  have v10 : FVec Ideal S2x64x96x96 .f32 := addf v7 v9
  have v16 : FVec Ideal S2x64x96x1x96 .f32 := broadcastInDim S2x64x96x1x96 ![0, 1, 2, 4] bcast_S2x64x96x96_S2x64x96x1x96_0_1_2_4 v10
  have cst_1 : FVec Ideal S_ .f32 := constant S_ .f32 0x3F400000#32
  have v11 : FVec Ideal S2x64x96x96 .f32 := broadcastInDim S2x64x96x96 ![] bcast_S_S2x64x96x96 cst_1
  have v12 : FVec Ideal S2x64x96x96 .f32 := mulf v11 arg0
  have cst_2 : FVec Ideal S_ .f32 := constant S_ .f32 0x3E800000#32
  have v13 : FVec Ideal S2x64x96x96 .f32 := broadcastInDim S2x64x96x96 ![] bcast_S_S2x64x96x96 cst_2
  have v3 : FVec Ideal S2x64x95x96 .f32 := extractStridedSlice S2x64x95x96 ![0, 0, 1, 0] arg0 slices_S2x64x96x96_S2x64x95x96_0_0_1_0
  have v4 : FVec Ideal S2x64x1x96 .f32 := extractStridedSlice S2x64x1x96 ![0, 0, 95, 0] arg0 slices_S2x64x96x96_S2x64x1x96_0_0_95_0
  have v5 : FVec Ideal S2x64x96x96 .f32 := concatenate S2x64x96x96 2 [⟨S2x64x95x96, v3⟩, ⟨S2x64x1x96, v4⟩] concatenates_S2x64x95x96_S2x64x1x96_S2x64x96x96_d2
  have v14 : FVec Ideal S2x64x96x96 .f32 := mulf v13 v5
  have v15 : FVec Ideal S2x64x96x96 .f32 := addf v12 v14
  have v17 : FVec Ideal S2x64x96x1x96 .f32 := broadcastInDim S2x64x96x1x96 ![0, 1, 2, 4] bcast_S2x64x96x96_S2x64x96x1x96_0_1_2_4 v15
  have v18 : FVec Ideal S2x64x96x2x96 .f32 := concatenate S2x64x96x2x96 3 [⟨S2x64x96x1x96, v16⟩, ⟨S2x64x96x1x96, v17⟩] concatenates_S2x64x96x1x96_S2x64x96x1x96_S2x64x96x2x96_d3
  shapeCast S2x64x192x96 v18 shapeCasts_S2x64x96x2x96_S2x64x192x96

/-- The columns doubled. -/
def refUp (v19 : FVec Ideal S2x64x192x96 .f32) : FVec Ideal S2x64x192x192 .f32 :=
  have cst_3 : FVec Ideal S_ .f32 := constant S_ .f32 0x3F400000#32
  have v26 : FVec Ideal S2x64x192x96 .f32 := broadcastInDim S2x64x192x96 ![] bcast_S_S2x64x192x96 cst_3
  have v27 : FVec Ideal S2x64x192x96 .f32 := mulf v26 v19
  have cst_4 : FVec Ideal S_ .f32 := constant S_ .f32 0x3E800000#32
  have v28 : FVec Ideal S2x64x192x96 .f32 := broadcastInDim S2x64x192x96 ![] bcast_S_S2x64x192x96 cst_4
  have v20 : FVec Ideal S2x64x192x1 .f32 := extractStridedSlice S2x64x192x1 ![0, 0, 0, 0] v19 slices_S2x64x192x96_S2x64x192x1_0_0_0_0
  have v21 : FVec Ideal S2x64x192x95 .f32 := extractStridedSlice S2x64x192x95 ![0, 0, 0, 0] v19 slices_S2x64x192x96_S2x64x192x95_0_0_0_0
  have v22 : FVec Ideal S2x64x192x96 .f32 := concatenate S2x64x192x96 3 [⟨S2x64x192x1, v20⟩, ⟨S2x64x192x95, v21⟩] concatenates_S2x64x192x1_S2x64x192x95_S2x64x192x96_d3
  have v29 : FVec Ideal S2x64x192x96 .f32 := mulf v28 v22
  have v30 : FVec Ideal S2x64x192x96 .f32 := addf v27 v29
  have v36 : FVec Ideal S2x64x192x96x1 .f32 := broadcastInDim S2x64x192x96x1 ![0, 1, 2, 3] bcast_S2x64x192x96_S2x64x192x96x1_0_1_2_3 v30
  have cst_5 : FVec Ideal S_ .f32 := constant S_ .f32 0x3F400000#32
  have v31 : FVec Ideal S2x64x192x96 .f32 := broadcastInDim S2x64x192x96 ![] bcast_S_S2x64x192x96 cst_5
  have v32 : FVec Ideal S2x64x192x96 .f32 := mulf v31 v19
  have cst_6 : FVec Ideal S_ .f32 := constant S_ .f32 0x3E800000#32
  have v33 : FVec Ideal S2x64x192x96 .f32 := broadcastInDim S2x64x192x96 ![] bcast_S_S2x64x192x96 cst_6
  have v23 : FVec Ideal S2x64x192x95 .f32 := extractStridedSlice S2x64x192x95 ![0, 0, 0, 1] v19 slices_S2x64x192x96_S2x64x192x95_0_0_0_1
  have v24 : FVec Ideal S2x64x192x1 .f32 := extractStridedSlice S2x64x192x1 ![0, 0, 0, 95] v19 slices_S2x64x192x96_S2x64x192x1_0_0_0_95
  have v25 : FVec Ideal S2x64x192x96 .f32 := concatenate S2x64x192x96 3 [⟨S2x64x192x95, v23⟩, ⟨S2x64x192x1, v24⟩] concatenates_S2x64x192x95_S2x64x192x1_S2x64x192x96_d3
  have v34 : FVec Ideal S2x64x192x96 .f32 := mulf v33 v25
  have v35 : FVec Ideal S2x64x192x96 .f32 := addf v32 v34
  have v37 : FVec Ideal S2x64x192x96x1 .f32 := broadcastInDim S2x64x192x96x1 ![0, 1, 2, 3] bcast_S2x64x192x96_S2x64x192x96x1_0_1_2_3 v35
  have v38 : FVec Ideal S2x64x192x96x2 .f32 := concatenate S2x64x192x96x2 4 [⟨S2x64x192x96x1, v36⟩, ⟨S2x64x192x96x1, v37⟩] concatenates_S2x64x192x96x1_S2x64x192x96x1_S2x64x192x96x2_d4
  shapeCast S2x64x192x192 v38 shapeCasts_S2x64x192x96x2_S2x64x192x192

/-- A border of zeros. -/
def refPad (v39 : FVec Ideal S2x64x192x192 .f32) : FVec Ideal S2x64x194x194 .f32 :=
  have c : IVec S_ 32 := constantI S_ 32 0#32
  pad S2x64x194x194 ![0, 0, 1, 1] ![0, 0, 1, 1] ![0, 0, 0, 0] v39 (sitofp .f32 c : FVec Ideal S_ .f32) pads_S2x64x192x192_S2x64x194x194_000_000_110_110 h_S_

/-- The nine taps and the bias. -/
def refConv (v40 : FVec Ideal S2x64x194x194 .f32) (arg1 : FVec Ideal S64x64x3x3 .f32) (arg2 : FVec Ideal S64 .f32) : FVec Ideal S2x64x192x192 .f32 :=
  have cst_7 : FVec Ideal S_ .f32 := constant S_ .f32 0x00000000#32
  have v41 : FVec Ideal S2x64x192x192 .f32 := broadcastInDim S2x64x192x192 ![] bcast_S_S2x64x192x192 cst_7
  have v44 : FVec Ideal S2x64x192x192 .f32 := extractStridedSlice S2x64x192x192 ![0, 0, 0, 0] v40 slices_S2x64x194x194_S2x64x192x192_0_0_0_0
  have v42 : FVec Ideal S64x64x1x1 .f32 := extractStridedSlice S64x64x1x1 ![0, 0, 0, 0] arg1 slices_S64x64x3x3_S64x64x1x1_0_0_0_0
  have v43 : FVec Ideal S64x64 .f32 := shapeCast S64x64 v42 shapeCasts_S64x64x1x1_S64x64
  have v45 : FVec Ideal S2x192x192x64 .f32 := Host.dotGeneral dot_S2x64x192x192_S64x64_S2x192x192x64_1_1_023_0_n_n none v44 v43
  have v46 : FVec Ideal S2x64x192x192 .f32 := transpose S2x64x192x192 [0, 3, 1, 2] v45 transposes_S2x192x192x64_S2x64x192x192_0_3_1_2
  have v47 : FVec Ideal S2x64x192x192 .f32 := addf v41 v46
  have v50 : FVec Ideal S2x64x192x192 .f32 := extractStridedSlice S2x64x192x192 ![0, 0, 0, 1] v40 slices_S2x64x194x194_S2x64x192x192_0_0_0_1
  have v48 : FVec Ideal S64x64x1x1 .f32 := extractStridedSlice S64x64x1x1 ![0, 0, 0, 1] arg1 slices_S64x64x3x3_S64x64x1x1_0_0_0_1
  have v49 : FVec Ideal S64x64 .f32 := shapeCast S64x64 v48 shapeCasts_S64x64x1x1_S64x64
  have v51 : FVec Ideal S2x192x192x64 .f32 := Host.dotGeneral dot_S2x64x192x192_S64x64_S2x192x192x64_1_1_023_0_n_n none v50 v49
  have v52 : FVec Ideal S2x64x192x192 .f32 := transpose S2x64x192x192 [0, 3, 1, 2] v51 transposes_S2x192x192x64_S2x64x192x192_0_3_1_2
  have v53 : FVec Ideal S2x64x192x192 .f32 := addf v47 v52
  have v56 : FVec Ideal S2x64x192x192 .f32 := extractStridedSlice S2x64x192x192 ![0, 0, 0, 2] v40 slices_S2x64x194x194_S2x64x192x192_0_0_0_2
  have v54 : FVec Ideal S64x64x1x1 .f32 := extractStridedSlice S64x64x1x1 ![0, 0, 0, 2] arg1 slices_S64x64x3x3_S64x64x1x1_0_0_0_2
  have v55 : FVec Ideal S64x64 .f32 := shapeCast S64x64 v54 shapeCasts_S64x64x1x1_S64x64
  have v57 : FVec Ideal S2x192x192x64 .f32 := Host.dotGeneral dot_S2x64x192x192_S64x64_S2x192x192x64_1_1_023_0_n_n none v56 v55
  have v58 : FVec Ideal S2x64x192x192 .f32 := transpose S2x64x192x192 [0, 3, 1, 2] v57 transposes_S2x192x192x64_S2x64x192x192_0_3_1_2
  have v59 : FVec Ideal S2x64x192x192 .f32 := addf v53 v58
  have v62 : FVec Ideal S2x64x192x192 .f32 := extractStridedSlice S2x64x192x192 ![0, 0, 1, 0] v40 slices_S2x64x194x194_S2x64x192x192_0_0_1_0
  have v60 : FVec Ideal S64x64x1x1 .f32 := extractStridedSlice S64x64x1x1 ![0, 0, 1, 0] arg1 slices_S64x64x3x3_S64x64x1x1_0_0_1_0
  have v61 : FVec Ideal S64x64 .f32 := shapeCast S64x64 v60 shapeCasts_S64x64x1x1_S64x64
  have v63 : FVec Ideal S2x192x192x64 .f32 := Host.dotGeneral dot_S2x64x192x192_S64x64_S2x192x192x64_1_1_023_0_n_n none v62 v61
  have v64 : FVec Ideal S2x64x192x192 .f32 := transpose S2x64x192x192 [0, 3, 1, 2] v63 transposes_S2x192x192x64_S2x64x192x192_0_3_1_2
  have v65 : FVec Ideal S2x64x192x192 .f32 := addf v59 v64
  have v68 : FVec Ideal S2x64x192x192 .f32 := extractStridedSlice S2x64x192x192 ![0, 0, 1, 1] v40 slices_S2x64x194x194_S2x64x192x192_0_0_1_1
  have v66 : FVec Ideal S64x64x1x1 .f32 := extractStridedSlice S64x64x1x1 ![0, 0, 1, 1] arg1 slices_S64x64x3x3_S64x64x1x1_0_0_1_1
  have v67 : FVec Ideal S64x64 .f32 := shapeCast S64x64 v66 shapeCasts_S64x64x1x1_S64x64
  have v69 : FVec Ideal S2x192x192x64 .f32 := Host.dotGeneral dot_S2x64x192x192_S64x64_S2x192x192x64_1_1_023_0_n_n none v68 v67
  have v70 : FVec Ideal S2x64x192x192 .f32 := transpose S2x64x192x192 [0, 3, 1, 2] v69 transposes_S2x192x192x64_S2x64x192x192_0_3_1_2
  have v71 : FVec Ideal S2x64x192x192 .f32 := addf v65 v70
  have v74 : FVec Ideal S2x64x192x192 .f32 := extractStridedSlice S2x64x192x192 ![0, 0, 1, 2] v40 slices_S2x64x194x194_S2x64x192x192_0_0_1_2
  have v72 : FVec Ideal S64x64x1x1 .f32 := extractStridedSlice S64x64x1x1 ![0, 0, 1, 2] arg1 slices_S64x64x3x3_S64x64x1x1_0_0_1_2
  have v73 : FVec Ideal S64x64 .f32 := shapeCast S64x64 v72 shapeCasts_S64x64x1x1_S64x64
  have v75 : FVec Ideal S2x192x192x64 .f32 := Host.dotGeneral dot_S2x64x192x192_S64x64_S2x192x192x64_1_1_023_0_n_n none v74 v73
  have v76 : FVec Ideal S2x64x192x192 .f32 := transpose S2x64x192x192 [0, 3, 1, 2] v75 transposes_S2x192x192x64_S2x64x192x192_0_3_1_2
  have v77 : FVec Ideal S2x64x192x192 .f32 := addf v71 v76
  have v80 : FVec Ideal S2x64x192x192 .f32 := extractStridedSlice S2x64x192x192 ![0, 0, 2, 0] v40 slices_S2x64x194x194_S2x64x192x192_0_0_2_0
  have v78 : FVec Ideal S64x64x1x1 .f32 := extractStridedSlice S64x64x1x1 ![0, 0, 2, 0] arg1 slices_S64x64x3x3_S64x64x1x1_0_0_2_0
  have v79 : FVec Ideal S64x64 .f32 := shapeCast S64x64 v78 shapeCasts_S64x64x1x1_S64x64
  have v81 : FVec Ideal S2x192x192x64 .f32 := Host.dotGeneral dot_S2x64x192x192_S64x64_S2x192x192x64_1_1_023_0_n_n none v80 v79
  have v82 : FVec Ideal S2x64x192x192 .f32 := transpose S2x64x192x192 [0, 3, 1, 2] v81 transposes_S2x192x192x64_S2x64x192x192_0_3_1_2
  have v83 : FVec Ideal S2x64x192x192 .f32 := addf v77 v82
  have v86 : FVec Ideal S2x64x192x192 .f32 := extractStridedSlice S2x64x192x192 ![0, 0, 2, 1] v40 slices_S2x64x194x194_S2x64x192x192_0_0_2_1
  have v84 : FVec Ideal S64x64x1x1 .f32 := extractStridedSlice S64x64x1x1 ![0, 0, 2, 1] arg1 slices_S64x64x3x3_S64x64x1x1_0_0_2_1
  have v85 : FVec Ideal S64x64 .f32 := shapeCast S64x64 v84 shapeCasts_S64x64x1x1_S64x64
  have v87 : FVec Ideal S2x192x192x64 .f32 := Host.dotGeneral dot_S2x64x192x192_S64x64_S2x192x192x64_1_1_023_0_n_n none v86 v85
  have v88 : FVec Ideal S2x64x192x192 .f32 := transpose S2x64x192x192 [0, 3, 1, 2] v87 transposes_S2x192x192x64_S2x64x192x192_0_3_1_2
  have v89 : FVec Ideal S2x64x192x192 .f32 := addf v83 v88
  have v92 : FVec Ideal S2x64x192x192 .f32 := extractStridedSlice S2x64x192x192 ![0, 0, 2, 2] v40 slices_S2x64x194x194_S2x64x192x192_0_0_2_2
  have v90 : FVec Ideal S64x64x1x1 .f32 := extractStridedSlice S64x64x1x1 ![0, 0, 2, 2] arg1 slices_S64x64x3x3_S64x64x1x1_0_0_2_2
  have v91 : FVec Ideal S64x64 .f32 := shapeCast S64x64 v90 shapeCasts_S64x64x1x1_S64x64
  have v93 : FVec Ideal S2x192x192x64 .f32 := Host.dotGeneral dot_S2x64x192x192_S64x64_S2x192x192x64_1_1_023_0_n_n none v92 v91
  have v94 : FVec Ideal S2x64x192x192 .f32 := transpose S2x64x192x192 [0, 3, 1, 2] v93 transposes_S2x192x192x64_S2x64x192x192_0_3_1_2
  have v95 : FVec Ideal S2x64x192x192 .f32 := addf v89 v94
  have v96 : FVec Ideal S1x64x1x1 .f32 := broadcastInDim S1x64x1x1 ![1] bcast_S64_S1x64x1x1_1 arg2
  have v97 : FVec Ideal S2x64x192x192 .f32 := broadcastInDim S2x64x192x192 ![0, 1, 2, 3] bcast_S1x64x1x1_S2x64x192x192_0_1_2_3 v96
  addf v95 v97

/-- The first normalization, and nothing below zero. -/
def refAct (v98 : FVec Ideal S2x64x192x192 .f32) (arg3 : FVec Ideal S64 .f32) (arg4 : FVec Ideal S64 .f32) (arg5 : FVec Ideal S64 .f32) (arg6 : FVec Ideal S64 .f32) : FVec Ideal S2x64x192x192 .f32 :=
  have v99 : FVec Ideal S1x64x1x1 .f32 := broadcastInDim S1x64x1x1 ![1] bcast_S64_S1x64x1x1_1 arg5
  have v100 : FVec Ideal S2x64x192x192 .f32 := broadcastInDim S2x64x192x192 ![0, 1, 2, 3] bcast_S1x64x1x1_S2x64x192x192_0_1_2_3 v99
  have v101 : FVec Ideal S2x64x192x192 .f32 := subf v98 v100
  have v102 : FVec Ideal S1x64x1x1 .f32 := broadcastInDim S1x64x1x1 ![1] bcast_S64_S1x64x1x1_1 arg6
  have cst_8 : FVec Ideal S_ .f32 := constant S_ .f32 0x3727C5AC#32
  have v103 : FVec Ideal S1x64x1x1 .f32 := broadcastInDim S1x64x1x1 ![] bcast_S_S1x64x1x1 cst_8
  have v104 : FVec Ideal S1x64x1x1 .f32 := addf v102 v103
  have v105 : FVec Ideal S1x64x1x1 .f32 := Host.sqrt v104
  have v106 : FVec Ideal S2x64x192x192 .f32 := broadcastInDim S2x64x192x192 ![0, 1, 2, 3] bcast_S1x64x1x1_S2x64x192x192_0_1_2_3 v105
  have v107 : FVec Ideal S2x64x192x192 .f32 := Host.divf v101 v106
  have v108 : FVec Ideal S1x64x1x1 .f32 := broadcastInDim S1x64x1x1 ![1] bcast_S64_S1x64x1x1_1 arg3
  have v109 : FVec Ideal S2x64x192x192 .f32 := broadcastInDim S2x64x192x192 ![0, 1, 2, 3] bcast_S1x64x1x1_S2x64x192x192_0_1_2_3 v108
  have v110 : FVec Ideal S2x64x192x192 .f32 := mulf v107 v109
  have v111 : FVec Ideal S1x64x1x1 .f32 := broadcastInDim S1x64x1x1 ![1] bcast_S64_S1x64x1x1_1 arg4
  have v112 : FVec Ideal S2x64x192x192 .f32 := broadcastInDim S2x64x192x192 ![0, 1, 2, 3] bcast_S1x64x1x1_S2x64x192x192_0_1_2_3 v111
  have v113 : FVec Ideal S2x64x192x192 .f32 := addf v110 v112
  have cst_9 : FVec Ideal S_ .f32 := constant S_ .f32 0x00000000#32
  have v114 : FVec Ideal S2x64x192x192 .f32 := broadcastInDim S2x64x192x192 ![] bcast_S_S2x64x192x192 cst_9
  maximumf v113 v114

/-- The channels mixed. -/
def refMix (v115 : FVec Ideal S2x64x192x192 .f32) (arg7 : FVec Ideal S32x64x1x1 .f32) : FVec Ideal S2x32x192x192 .f32 :=
  have v116 : FVec Ideal S32x64 .f32 := shapeCast S32x64 arg7 shapeCasts_S32x64x1x1_S32x64
  have v117 : FVec Ideal S2x192x192x32 .f32 := Host.dotGeneral dot_S2x64x192x192_S32x64_S2x192x192x32_1_1_023_0_n_n none v115 v116
  transpose S2x32x192x192 [0, 3, 1, 2] v117 transposes_S2x192x192x32_S2x32x192x192_0_3_1_2

/-- The second normalization and its threshold. -/
def refMap (v118 : FVec Ideal S2x32x192x192 .f32) (arg8 : FVec Ideal S32 .f32) (arg9 : FVec Ideal S32 .f32) (arg10 : FVec Ideal S32 .f32) (arg11 : FVec Ideal S32 .f32) : FVec Ideal S2x32x192x192 .f32 :=
  have v119 : FVec Ideal S1x32x1x1 .f32 := broadcastInDim S1x32x1x1 ![1] bcast_S32_S1x32x1x1_1 arg10
  have v120 : FVec Ideal S2x32x192x192 .f32 := broadcastInDim S2x32x192x192 ![0, 1, 2, 3] bcast_S1x32x1x1_S2x32x192x192_0_1_2_3 v119
  have v121 : FVec Ideal S2x32x192x192 .f32 := subf v118 v120
  have v122 : FVec Ideal S1x32x1x1 .f32 := broadcastInDim S1x32x1x1 ![1] bcast_S32_S1x32x1x1_1 arg11
  have cst_10 : FVec Ideal S_ .f32 := constant S_ .f32 0x3727C5AC#32
  have v123 : FVec Ideal S1x32x1x1 .f32 := broadcastInDim S1x32x1x1 ![] bcast_S_S1x32x1x1 cst_10
  have v124 : FVec Ideal S1x32x1x1 .f32 := addf v122 v123
  have v125 : FVec Ideal S1x32x1x1 .f32 := Host.sqrt v124
  have v126 : FVec Ideal S2x32x192x192 .f32 := broadcastInDim S2x32x192x192 ![0, 1, 2, 3] bcast_S1x32x1x1_S2x32x192x192_0_1_2_3 v125
  have v127 : FVec Ideal S2x32x192x192 .f32 := Host.divf v121 v126
  have v128 : FVec Ideal S1x32x1x1 .f32 := broadcastInDim S1x32x1x1 ![1] bcast_S32_S1x32x1x1_1 arg8
  have v129 : FVec Ideal S2x32x192x192 .f32 := broadcastInDim S2x32x192x192 ![0, 1, 2, 3] bcast_S1x32x1x1_S2x32x192x192_0_1_2_3 v128
  have v130 : FVec Ideal S2x32x192x192 .f32 := mulf v127 v129
  have v131 : FVec Ideal S1x32x1x1 .f32 := broadcastInDim S1x32x1x1 ![1] bcast_S32_S1x32x1x1_1 arg9
  have v132 : FVec Ideal S2x32x192x192 .f32 := broadcastInDim S2x32x192x192 ![0, 1, 2, 3] bcast_S1x32x1x1_S2x32x192x192_0_1_2_3 v131
  have v133 : FVec Ideal S2x32x192x192 .f32 := addf v130 v132
  have cst_11 : FVec Ideal S_ .f32 := constant S_ .f32 0x3F800000#32
  have v134 : FVec Ideal S2x32x192x192 .f32 := broadcastInDim S2x32x192x192 ![] bcast_S_S2x32x192x192 cst_11
  have v135 : IVec S2x32x192x192 1 := cmpf .ogt v133 v134
  have cst_12 : FVec Ideal S_ .f32 := constant S_ .f32 0x00000000#32
  select v135 v133 (broadcastInDim S2x32x192x192 ![] bcast_S_S2x32x192x192 cst_12 : FVec Ideal S2x32x192x192 .f32)

/-- The sums over windows of five. -/
def refSum (v136 : FVec Ideal S2x32x192x192 .f32) : FVec Ideal S2x32x192x192 .f32 :=
  have cst_13 : FVec Ideal S_ .f32 := constant S_ .f32 0x00000000#32
  have v137 : FVec Ideal S_ .f32 := broadcastInDim S_ ![] bcast_S_S_ cst_13
  Host.reduceWindowAdd ![1, 1, 5, 5] ![1, 1, 1, 1] ![0, 0, 2, 2] ![0, 0, 2, 2] v136 v137 reduceWindows_S2x32x192x192_S2x32x192x192_w1s1p0_0_w1s1p0_0_w5s1p2_2_w5s1p2_2 h_S_

/-- The greatest over windows of five. -/
def refMax (v138 : FVec Ideal S2x32x192x192 .f32) : FVec Ideal S2x32x192x192 .f32 :=
  have cst_14 : FVec Ideal S_ .f32 := constant S_ .f32 0xFF800000#32
  have v139 : FVec Ideal S_ .f32 := broadcastInDim S_ ![] bcast_S_S_ cst_14
  Host.reduceWindow FloatOps.maximumf ![1, 1, 5, 5] ![1, 1, 1, 1] ![0, 0, 2, 2] ![0, 0, 2, 2] v138 v139 reduceWindows_S2x32x192x192_S2x32x192x192_w1s1p0_0_w1s1p0_0_w5s1p2_2_w5s1p2_2 h_S_

/-- Sums where they are greatest, zero elsewhere. -/
def refPeaks (v138 : FVec Ideal S2x32x192x192 .f32) (v140 : FVec Ideal S2x32x192x192 .f32) : FVec Ideal S2x32x36864 .f32 :=
  have v141 : IVec S2x32x192x192 1 := cmpf .oeq v138 v140
  have v142 : FVec Ideal S2x32x192x192 .f32 := uitofp .f32 v141
  have v143 : FVec Ideal S2x32x192x192 .f32 := mulf v138 v142
  shapeCast S2x32x36864 v143 shapeCasts_S2x32x192x192_S2x32x36864

/-- Where the thirty-two greatest stand. -/
def refIdx (v144 : FVec Ideal S2x32x36864 .f32) : IVec S2x32x32 32 :=
  (Host.topK S2x32x32 2 (FloatOps.cmpfTotal .gt) v144 sliceFits_S2x32x36864_S2x32x32).2

/-- Their rows. -/
def refRow (indices : IVec S2x32x32 32) : IVec S2x32x32 32 :=
  have c_15 : IVec S_ 32 := constantI S_ 32 192#32
  have v145 : IVec S2x32x32 32 := broadcastInDim S2x32x32 ![] bcast_S_S2x32x32 c_15
  Host.divsi indices v145

/-- Their columns. -/
def refCol (indices : IVec S2x32x32 32) : IVec S2x32x32 32 :=
  have c_16 : IVec S_ 32 := constantI S_ 32 192#32
  have v147 : IVec S2x32x32 32 := broadcastInDim S2x32x32 ![] bcast_S_S2x32x32 c_16
  Host.remsi indices v147

/-- The map in its border of two zeros, flat. -/
def refWide (v136 : FVec Ideal S2x32x192x192 .f32) : FVec Ideal S2x32x38416 .f32 :=
  have c_17 : IVec S_ 32 := constantI S_ 32 0#32
  have v149 : FVec Ideal S2x32x196x196 .f32 := pad S2x32x196x196 ![0, 0, 2, 2] ![0, 0, 2, 2] ![0, 0, 0, 0] v136 (sitofp .f32 c_17 : FVec Ideal S_ .f32) pads_S2x32x192x192_S2x32x196x196_000_000_220_220 h_S_
  shapeCast S2x32x38416 v149 shapeCasts_S2x32x196x196_S2x32x38416

/-- The places of the windows. -/
def refPlaces (v146 : IVec S2x32x32 32) (v148 : IVec S2x32x32 32) : IVec S2x32x800 32 :=
  have v155 : IVec S2x32x32x1x1 32 := broadcastInDim S2x32x32x1x1 ![0, 1, 2] bcast_S2x32x32_S2x32x32x1x1_0_1_2 v146
  have v157 : IVec S2x32x32x5x1 32 := broadcastInDim S2x32x32x5x1 ![0, 1, 2, 3, 4] bcast_S2x32x32x1x1_S2x32x32x5x1_0_1_2_3_4 v155
  have v151 : IVec S5 32 := iotaInDim S5 32 0
  have v152 : IVec S5x1 32 := broadcastInDim S5x1 ![0] bcast_S5_S5x1_0 v151
  have v156 : IVec S1x1x1x5x1 32 := broadcastInDim S1x1x1x5x1 ![3, 4] bcast_S5x1_S1x1x1x5x1_3_4 v152
  have v158 : IVec S2x32x32x5x1 32 := broadcastInDim S2x32x32x5x1 ![0, 1, 2, 3, 4] bcast_S1x1x1x5x1_S2x32x32x5x1_0_1_2_3_4 v156
  have v159 : IVec S2x32x32x5x1 32 := addi v157 v158
  have c_18 : IVec S_ 32 := constantI S_ 32 196#32
  have v160 : IVec S2x32x32x5x1 32 := broadcastInDim S2x32x32x5x1 ![] bcast_S_S2x32x32x5x1 c_18
  have v161 : IVec S2x32x32x5x1 32 := muli v159 v160
  have v167 : IVec S2x32x32x5x5 32 := broadcastInDim S2x32x32x5x5 ![0, 1, 2, 3, 4] bcast_S2x32x32x5x1_S2x32x32x5x5_0_1_2_3_4 v161
  have v162 : IVec S2x32x32x1x1 32 := broadcastInDim S2x32x32x1x1 ![0, 1, 2] bcast_S2x32x32_S2x32x32x1x1_0_1_2 v148
  have v164 : IVec S2x32x32x1x5 32 := broadcastInDim S2x32x32x1x5 ![0, 1, 2, 3, 4] bcast_S2x32x32x1x1_S2x32x32x1x5_0_1_2_3_4 v162
  have v153 : IVec S5 32 := iotaInDim S5 32 0
  have v154 : IVec S1x5 32 := broadcastInDim S1x5 ![1] bcast_S5_S1x5_1 v153
  have v163 : IVec S1x1x1x1x5 32 := broadcastInDim S1x1x1x1x5 ![3, 4] bcast_S1x5_S1x1x1x1x5_3_4 v154
  have v165 : IVec S2x32x32x1x5 32 := broadcastInDim S2x32x32x1x5 ![0, 1, 2, 3, 4] bcast_S1x1x1x1x5_S2x32x32x1x5_0_1_2_3_4 v163
  have v166 : IVec S2x32x32x1x5 32 := addi v164 v165
  have v168 : IVec S2x32x32x5x5 32 := broadcastInDim S2x32x32x5x5 ![0, 1, 2, 3, 4] bcast_S2x32x32x1x5_S2x32x32x5x5_0_1_2_3_4 v166
  have v169 : IVec S2x32x32x5x5 32 := addi v167 v168
  shapeCast S2x32x800 v169 shapeCasts_S2x32x32x5x5_S2x32x800

/-- The windows. -/
def refWins (v150 : FVec Ideal S2x32x38416 .f32) (v170 : IVec S2x32x800 32) : FVec Ideal S2x32x32x5x5 .f32 :=
  have v171 : FVec Ideal S2x32x800 .f32 := taken v150 v170
  shapeCast S2x32x32x5x5 v171 shapeCasts_S2x32x800_S2x32x32x5x5

/-- The corners. -/
def refPos (v146 : IVec S2x32x32 32) (v148 : IVec S2x32x32 32) : IVec S2x32x32x4 32 :=
  have c_19 : IVec S_ 32 := constantI S_ 32 2#32
  have v173 : IVec S2x32x32 32 := broadcastInDim S2x32x32 ![] bcast_S_S2x32x32 c_19
  have v174 : IVec S2x32x32 32 := subi v148 v173
  have c_20 : IVec S_ 32 := constantI S_ 32 0#32
  have c_21 : IVec S_ 32 := constantI S_ 32 191#32
  have v175 : IVec S2x32x32 32 := clipped v174 c_20 c_21
  have v185 : IVec S2x32x32x1 32 := broadcastInDim S2x32x32x1 ![0, 1, 2] bcast_S2x32x32_S2x32x32x1_0_1_2 v175
  have c_22 : IVec S_ 32 := constantI S_ 32 2#32
  have v176 : IVec S2x32x32 32 := broadcastInDim S2x32x32 ![] bcast_S_S2x32x32 c_22
  have v177 : IVec S2x32x32 32 := subi v146 v176
  have c_23 : IVec S_ 32 := constantI S_ 32 0#32
  have c_24 : IVec S_ 32 := constantI S_ 32 191#32
  have v178 : IVec S2x32x32 32 := clipped v177 c_23 c_24
  have v186 : IVec S2x32x32x1 32 := broadcastInDim S2x32x32x1 ![0, 1, 2] bcast_S2x32x32_S2x32x32x1_0_1_2 v178
  have c_25 : IVec S_ 32 := constantI S_ 32 2#32
  have v179 : IVec S2x32x32 32 := broadcastInDim S2x32x32 ![] bcast_S_S2x32x32 c_25
  have v180 : IVec S2x32x32 32 := addi v148 v179
  have c_26 : IVec S_ 32 := constantI S_ 32 0#32
  have c_27 : IVec S_ 32 := constantI S_ 32 191#32
  have v181 : IVec S2x32x32 32 := clipped v180 c_26 c_27
  have v187 : IVec S2x32x32x1 32 := broadcastInDim S2x32x32x1 ![0, 1, 2] bcast_S2x32x32_S2x32x32x1_0_1_2 v181
  have c_28 : IVec S_ 32 := constantI S_ 32 2#32
  have v182 : IVec S2x32x32 32 := broadcastInDim S2x32x32 ![] bcast_S_S2x32x32 c_28
  have v183 : IVec S2x32x32 32 := addi v146 v182
  have c_29 : IVec S_ 32 := constantI S_ 32 0#32
  have c_30 : IVec S_ 32 := constantI S_ 32 191#32
  have v184 : IVec S2x32x32 32 := clipped v183 c_29 c_30
  have v188 : IVec S2x32x32x1 32 := broadcastInDim S2x32x32x1 ![0, 1, 2] bcast_S2x32x32_S2x32x32x1_0_1_2 v184
  concatenate S2x32x32x4 3 [⟨S2x32x32x1, v185⟩, ⟨S2x32x32x1, v186⟩, ⟨S2x32x32x1, v187⟩, ⟨S2x32x32x1, v188⟩] concatenates_S2x32x32x1_S2x32x32x1_S2x32x32x1_S2x32x32x1_S2x32x32x4_d3

/-- The filtered map of the arguments. -/
def refFeature (a0 : FVec Ideal S2x64x96x96 .f32) (a1 : FVec Ideal S64x64x3x3 .f32) (a2 a3 a4 a5 a6 : FVec Ideal S64 .f32)
    (a7 : FVec Ideal S32x64x1x1 .f32) (a8 a9 a10 a11 : FVec Ideal S32 .f32) : FVec Ideal S2x32x192x192 .f32 :=
  refMap (refMix (refAct (refConv (refPad (refUp (refRows a0))) a1 a2) a3 a4 a5 a6) a7) a8 a9 a10 a11

/-- Where a map's thirty-two greatest peaks stand. -/
def refBest (x : FVec Ideal S2x32x192x192 .f32) : IVec S2x32x32 32 := refIdx (refPeaks (refSum x) (refMax (refSum x)))

/-- The first result, of the map. -/
def refFirst (x : FVec Ideal S2x32x192x192 .f32) : FVec Ideal S2x32x32x5x5 .f32 :=
  refWins (refWide x) (refPlaces (refRow (refBest x)) (refCol (refBest x)))

/-- The second result, of the map. -/
def refSecond (x : FVec Ideal S2x32x192x192 .f32) : IVec S2x32x32x4 32 := refPos (refRow (refBest x)) (refCol (refBest x))

end Cert.ReferenceIdeal.Value
end
-- ==== Proof.RefNms.lean ====
module

public import proofs.«01_k».proof.Proof.RefTerm
public import proofs.«01_k».proof.Proof.Peaks
public import proofs.«01_k».proof.Proof.Words

@[expose] public section

set_option maxRecDepth 16384

/-! # The reference's peaks, entry by entry -/

noncomputable section
namespace Cert.ReferenceIdeal.Value
open Idealize.ShloMosaic Idealize.ShloMosaic.TcCoe
open Cert.ReferenceIdeal Cert.ReferenceIdeal.Gen Cert.Spec

/-- The window of five by five, its positions in one list. -/
abbrev Box : Shape := ⟨4, ![1, 1, 5, 5]⟩

theorem box_at : ∀ n : Fin 25, ((Box.rowMajor.symm (n.cast rfl)) 0).val = 0 ∧ ((Box.rowMajor.symm (n.cast rfl)) 1).val = 0
    ∧ ((Box.rowMajor.symm (n.cast rfl)) 2).val = n.val / 5 ∧ ((Box.rowMajor.symm (n.cast rfl)) 3).val = n.val % 5 := by
  decide +kernel

/-- A fold over windows of five by five reads the map inside a border of the first value. -/
theorem window_fold (f : EReal → EReal → EReal) (x : FVec Ideal S2x32x192x192 .f32) (X : ℕ → ℕ → EReal) (v : EReal) (b : Fin 2) (o : Fin 32)
    (hx : ∀ i j : Fin 192, x (ix4 b o i j) = X i.val j.val) (u : FVec Ideal S_ .f32) (hu : 0 < S_.numel) (hv : ∀ a, u a = v)
    (hr : S2x32x192x192.ReduceWindows ![1, 1, 5, 5] ![1, 1, 1, 1] ![0, 0, 2, 2] ![0, 0, 2, 2] S2x32x192x192) (i j : Fin 192) :
    Host.reduceWindow f ![1, 1, 5, 5] ![1, 1, 1, 1] ![0, 0, 2, 2] ![0, 0, 2, 2] x u hr hu (ix4 b o i j)
      = (List.finRange 25).foldl (fun r n => f r (if 2 ≤ i.val + n.val / 5 ∧ i.val + n.val / 5 < 194 ∧ 2 ≤ j.val + n.val % 5 ∧ j.val + n.val % 5 < 194
          then X (i.val + n.val / 5 - 2) (j.val + n.val % 5 - 2) else v)) v := by
  unfold Host.reduceWindow
  dsimp only
  rw [hv]
  show List.foldl _ _ (List.finRange 25) = _
  congr 1
  funext r n
  congr 1
  obtain ⟨w0, w1, w2, w3⟩ := box_at n
  have w0' : (Box.rowMajor.symm n 0).val = 0 := w0
  have w1' : (Box.rowMajor.symm n 1).val = 0 := w1
  have w2' : (Box.rowMajor.symm n 2).val = n.val / 5 := w2
  have w3' : (Box.rowMajor.symm n 3).val = n.val % 5 := w3
  split
  · next hin =>
    have h2 := hin 2
    have h3 := hin 3
    change 2 ≤ i.val * 1 + (Box.rowMajor.symm n 2).val ∧ i.val * 1 + (Box.rowMajor.symm n 2).val - 2 < 192 at h2
    change 2 ≤ j.val * 1 + (Box.rowMajor.symm n 3).val ∧ j.val * 1 + (Box.rowMajor.symm n 3).val - 2 < 192 at h3
    rw [w2'] at h2
    rw [w3'] at h3
    rw [if_pos (by omega)]
    refine (congrArg x (funext fun a => Fin.ext ?_)).trans (hx ⟨i.val + n.val / 5 - 2, by omega⟩ ⟨j.val + n.val % 5 - 2, by omega⟩)
    match a with
    | ⟨0, _⟩ =>
      show b.val * 1 + (Box.rowMajor.symm n 0).val - 0 = b.val
      rw [w0']; omega
    | ⟨1, _⟩ =>
      show o.val * 1 + (Box.rowMajor.symm n 1).val - 0 = o.val
      rw [w1']; omega
    | ⟨2, _⟩ =>
      show i.val * 1 + (Box.rowMajor.symm n 2).val - 2 = i.val + n.val / 5 - 2
      rw [w2', Nat.mul_one]
    | ⟨3, _⟩ =>
      show j.val * 1 + (Box.rowMajor.symm n 3).val - 2 = j.val + n.val % 5 - 2
      rw [w3', Nat.mul_one]
  · next hin =>
    rw [if_neg]
    intro h
    refine hin fun a => ?_
    match a with
    | ⟨0, _⟩ =>
      show 0 ≤ b.val * 1 + (Box.rowMajor.symm n 0).val ∧ b.val * 1 + (Box.rowMajor.symm n 0).val - 0 < 2
      rw [w0']; omega
    | ⟨1, _⟩ =>
      show 0 ≤ o.val * 1 + (Box.rowMajor.symm n 1).val ∧ o.val * 1 + (Box.rowMajor.symm n 1).val - 0 < 32
      rw [w1']; omega
    | ⟨2, _⟩ =>
      show 2 ≤ i.val * 1 + (Box.rowMajor.symm n 2).val ∧ i.val * 1 + (Box.rowMajor.symm n 2).val - 2 < 192
      rw [w2']; omega
    | ⟨3, _⟩ =>
      show 2 ≤ j.val * 1 + (Box.rowMajor.symm n 3).val ∧ j.val * 1 + (Box.rowMajor.symm n 3).val - 2 < 192
      rw [w3']; omega

theorem fold_sum (R : ℕ → ℕ → EReal) :
    (List.finRange 25).foldl (fun r n => r + R (n.val / 5) (n.val % 5)) 0 = five fun a => five fun b => R a b := by
  simp [List.finRange, List.ofFn_succ, five, add_assoc]

theorem fold_max_le {ι : Type} (h : ι → EReal) (l : List ι) (v g : EReal) :
    l.foldl (fun r n => FloatOps.maximumf (F := Ideal) (φ := .f32) r (h n)) v ≤ g ↔ v ≤ g ∧ ∀ n ∈ l, h n ≤ g := by
  induction l generalizing v with
  | nil => simp
  | cons a l ih =>
    rw [List.foldl_cons, ih]
    show max v (h a) ≤ g ∧ _ ↔ _
    rw [max_le_iff]
    simp only [List.forall_mem_cons, and_assoc]

theorem fold_max_ge {ι : Type} (h : ι → EReal) (l : List ι) (v : EReal) (n : ι) (hn : n ∈ l) :
    h n ≤ l.foldl (fun r n => FloatOps.maximumf (F := Ideal) (φ := .f32) r (h n)) v :=
  ((fold_max_le h l v _).mp (le_refl (l.foldl (fun r n => FloatOps.maximumf (F := Ideal) (φ := .f32) r (h n)) v))).2 n hn

theorem peaks_mask (s t : FVec Ideal S2x32x192x192 .f32) (b : Fin 2) (o : Fin 32) (k : Fin 36864) :
    refPeaks s t (ix3 b o k) = if s (ix4 b o ⟨k.val / 192, by omega⟩ ⟨k.val % 192, by omega⟩) = t (ix4 b o ⟨k.val / 192, by omega⟩ ⟨k.val % 192, by omega⟩)
      then s (ix4 b o ⟨k.val / 192, by omega⟩ ⟨k.val % 192, by omega⟩) else 0 := by
  pointwise [refPeaks]
  split
  · next e =>
    rw [decide_eq_true e]
    have h : (FloatOps.uitofp (F := Ideal) FTy.f32 (BitVec.ofBool true) : EReal) = 1 := by
      show (((BitVec.ofBool true).toNat : ℝ) : EReal) = 1
      simp
    rw [h, mul_one]
  · next e =>
    rw [decide_eq_false e]
    have h : (FloatOps.uitofp (F := Ideal) FTy.f32 (BitVec.ofBool false) : EReal) = 0 := by
      show (((BitVec.ofBool false).toNat : ℝ) : EReal) = 0
      simp
    rw [h, mul_zero]

theorem refSum_at (x : FVec Ideal S2x32x192x192 .f32) (X : ℕ → ℕ → EReal) (b : Fin 2) (o : Fin 32)
    (hx : ∀ i j : Fin 192, x (ix4 b o i j) = X i.val j.val) (i j : Fin 192) : refSum x (ix4 b o i j) = total X i.val j.val := by
  unfold refSum
  have h := window_fold (· + ·) x X 0 b o hx (fun _ => 0) (by decide) (fun _ => rfl)
    reduceWindows_S2x32x192x192_S2x32x192x192_w1s1p0_0_w1s1p0_0_w5s1p2_2_w5s1p2_2 i j
  have hz : Ideal.ofBits FTy.f32 0x00000000#32 = 0 := by simp [Ideal.ofBits, Ideal.ieee]
  have e : Host.reduceWindowAdd (F := Ideal) ![1, 1, 5, 5] ![1, 1, 1, 1] ![0, 0, 2, 2] ![0, 0, 2, 2] x (broadcastInDim S_ ![] bcast_S_S_ (constant (F := Ideal) S_ .f32 0x00000000#32))
      reduceWindows_S2x32x192x192_S2x32x192x192_w1s1p0_0_w1s1p0_0_w5s1p2_2_w5s1p2_2 h_S_ (ix4 b o i j)
    = Host.reduceWindow (· + ·) ![1, 1, 5, 5] ![1, 1, 1, 1] ![0, 0, 2, 2] ![0, 0, 2, 2] x (fun _ : (⟨0, ![]⟩ : Shape).Idx => Ideal.ofBits FTy.f32 0x00000000#32)
      reduceWindows_S2x32x192x192_S2x32x192x192_w1s1p0_0_w1s1p0_0_w5s1p2_2_w5s1p2_2 (by decide) (ix4 b o i j) := rfl
  refine e.trans ?_
  rw [hz]
  refine h.trans ?_
  exact fold_sum fun a b => ring X (i.val + a) (j.val + b)

theorem refMax_at (x : FVec Ideal S2x32x192x192 .f32) (X : ℕ → ℕ → EReal) (b : Fin 2) (o : Fin 32)
    (hx : ∀ i j : Fin 192, x (ix4 b o i j) = X i.val j.val) (i j : Fin 192) (g : EReal) (hg : 0 ≤ g) :
    refMax x (ix4 b o i j) ≤ g ↔ ∀ m n : ℕ, m < 5 → n < 5 → ring X (i.val + m) (j.val + n) ≤ g := by
  unfold refMax
  have h := window_fold (FloatOps.maximumf (F := Ideal) (φ := .f32)) x X ⊥ b o hx (broadcastInDim S_ ![] bcast_S_S_ (constant (F := Ideal) S_ .f32 0xFF800000#32)) h_S_
    (fun a => show Ideal.ofBits FTy.f32 0xFF800000#32 = ⊥ by simp [Ideal.ofBits, Ideal.ieee])
    reduceWindows_S2x32x192x192_S2x32x192x192_w1s1p0_0_w1s1p0_0_w5s1p2_2_w5s1p2_2 i j
  dsimp only
  rw [h]
  refine (fold_max_le _ _ _ _).trans ?_
  constructor
  · rintro ⟨_, h⟩ m n hm hn
    have h' := h ⟨m * 5 + n, by omega⟩ (List.mem_finRange _)
    have e1 : (m * 5 + n) / 5 = m := by omega
    have e2 : (m * 5 + n) % 5 = n := by omega
    simp only [e1, e2] at h'
    unfold ring
    split
    · next hc => rw [if_pos hc] at h'; exact h'
    · exact hg
  · intro h
    refine ⟨bot_le, fun n _ => ?_⟩
    have h' := h (n.val / 5) (n.val % 5) (by omega) (by omega)
    unfold ring at h'
    split
    · next hc => rw [if_pos hc] at h'; exact h'
    · exact bot_le

theorem refMax_ge (x : FVec Ideal S2x32x192x192 .f32) (X : ℕ → ℕ → EReal) (b : Fin 2) (o : Fin 32)
    (hx : ∀ i j : Fin 192, x (ix4 b o i j) = X i.val j.val) (i j : Fin 192) : X i.val j.val ≤ refMax x (ix4 b o i j) := by
  unfold refMax
  have h := window_fold (FloatOps.maximumf (F := Ideal) (φ := .f32)) x X ⊥ b o hx (broadcastInDim S_ ![] bcast_S_S_ (constant (F := Ideal) S_ .f32 0xFF800000#32)) h_S_
    (fun a => show Ideal.ofBits FTy.f32 0xFF800000#32 = ⊥ by simp [Ideal.ofBits, Ideal.ieee])
    reduceWindows_S2x32x192x192_S2x32x192x192_w1s1p0_0_w1s1p0_0_w5s1p2_2_w5s1p2_2 i j
  dsimp only
  rw [h]
  refine le_trans ?_ (fold_max_ge _ _ _ (⟨12, by omega⟩ : Fin 25) (List.mem_finRange _))
  rw [if_pos (by dsimp only; omega)]
  exact le_rfl

open Classical in
theorem refPeaks_at (x : FVec Ideal S2x32x192x192 .f32) (X : ℕ → ℕ → EReal) (b : Fin 2) (o : Fin 32)
    (hx : ∀ i j : Fin 192, x (ix4 b o i j) = X i.val j.val) (h0 : ∀ i j, 0 ≤ X i j) (k : Fin 36864) :
    refPeaks (refSum x) (refMax (refSum x)) (ix3 b o k) = peak X (k.val / 192) (k.val % 192) := by
  have hs := refSum_at x X b o hx ⟨k.val / 192, by omega⟩ ⟨k.val % 192, by omega⟩
  have hm := refMax_at (refSum x) (total X) b o (refSum_at x X b o hx) ⟨k.val / 192, by omega⟩ ⟨k.val % 192, by omega⟩
  refine (peaks_mask (refSum x) (refMax (refSum x)) b o k).trans ?_
  rw [hs]
  unfold peak
  refine if_congr ?_ rfl rfl
  constructor
  · intro e a c ha hc
    exact (hm _ (total_nonneg X h0 _ _)).mp e.symm.le a c ha hc
  · intro hp
    refine le_antisymm ?_ ((hm _ (total_nonneg X h0 _ _)).mpr hp)
    exact refMax_ge (refSum x) (total X) b o (refSum_at x X b o hx) ⟨k.val / 192, by omega⟩ ⟨k.val % 192, by omega⟩

theorem topK_snd {s : Shape} {α : Type} (t : Shape) (d : Nat) (gt : α → α → BitVec 1) (x : s.Idx → α) (h : s.Slices (fun _ => 0) t)
    (hd : d < s.rank) (j : t.Idx) (i : s.Idx) (hi : ∀ a, (i a).val = (j (a.cast h.1.symm)).val) :
    (Host.topK t d gt x h).2 j
      = BitVec.ofNat 32 (sortedFrom (fun k k' => gt (x (i.along ⟨d, hd⟩ k)) (x (i.along ⟨d, hd⟩ k')) == 1#1) (i ⟨d, hd⟩)).val := by
  have e : (fun a => ⟨0 + (j (a.cast h.1.symm)).val, Nat.lt_of_lt_of_le (Nat.add_lt_add_left (j _).isLt _) (h.2 a)⟩ : s.Idx) = i :=
    funext fun a => Fin.ext (by rw [hi a]; exact Nat.zero_add _)
  unfold Host.topK extractStridedSlice
  dsimp only
  rw [e]
  unfold Host.sort2
  simp only [dif_pos hd, iotaInDim, Shape.Idx.along, Function.update_self]

theorem along_last {s : Shape} (i : s.Idx) (a : Fin s.rank) (k : Fin (s.size a)) (y : s.Idx) (hk : (y a).val = k.val)
    (hy : ∀ c, c ≠ a → (y c).val = (i c).val) : i.along a k = y := by
  funext c
  by_cases h : c = a
  · subst h
    exact (Function.update_self ..).trans (Fin.ext hk.symm)
  · exact (Function.update_of_ne h ..).trans (Fin.ext (hy c h).symm)

/-- The axis a map's pixels lie along. -/
abbrev lastAxis : Fin S2x32x36864.rank := ⟨2, by decide⟩

theorem greater_eq (x y : EReal) : (FloatOps.cmpfTotal (F := Ideal) (φ := .f32) CmpDirection.gt x y == 1#1) = decide (y < x) := by
  show (BitVec.ofBool (decide (y < x)) == 1#1) = decide (y < x)
  cases decide (y < x) <;> rfl

theorem refIdx_at (p : FVec Ideal S2x32x36864 .f32) (q : Fin 36864 → EReal) (b : Fin 2) (o n : Fin 32) (hp : ∀ k, p (ix3 b o k) = q k) :
    refIdx p (ix3 b o n) = BitVec.ofNat 32 (place q ⟨n.val, by omega⟩) := by
  unfold refIdx
  refine (topK_snd S2x32x32 2 _ p _ (by decide) (ix3 b o n) (ix3 b o ⟨n.val, by omega⟩) ?_).trans ?_
  · intro a
    match a with
    | ⟨0, _⟩ => rfl
    | ⟨1, _⟩ => rfl
    | ⟨2, _⟩ => rfl
  · have hl : ∀ k : Fin 36864, p ((ix3 b o ⟨n.val, by omega⟩ : S2x32x36864.Idx).along lastAxis k) = q k := by
      intro k
      refine (congrArg p (along_last (s := S2x32x36864) (ix3 b o ⟨n.val, by omega⟩) lastAxis k (ix3 b o k) rfl ?_)).trans (hp k)
      intro c hc
      match c with
      | ⟨0, _⟩ => rfl
      | ⟨1, _⟩ => rfl
      | ⟨2, _⟩ => exact absurd rfl hc
    have e : (fun k k' : Fin 36864 => FloatOps.cmpfTotal (F := Ideal) (φ := .f32) CmpDirection.gt (p ((ix3 b o ⟨n.val, by omega⟩ : S2x32x36864.Idx).along lastAxis k))
          (p ((ix3 b o ⟨n.val, by omega⟩ : S2x32x36864.Idx).along lastAxis k')) == 1#1)
        = fun k k' => decide (q k' < q k) := by
      funext k k'
      rw [hl, hl]
      exact greater_eq _ _
    unfold place order
    exact congrArg (fun R => BitVec.ofNat 32 (sortedFrom (n := 36864) R ⟨n.val, by omega⟩).val) e

end Cert.ReferenceIdeal.Value
end
-- ==== Proof.RefOut.lean ====
module

public import proofs.«01_k».proof.Proof.RefNms
public import Idealize.ShloMosaic.Lib.Routing.Words

@[expose] public section

set_option maxRecDepth 16384

/-! # The reference's two results, entry by entry -/

noncomputable section
namespace Cert.ReferenceIdeal.Value
open Idealize.ShloMosaic Idealize.ShloMosaic.TcCoe
open Cert.ReferenceIdeal Cert.ReferenceIdeal.Gen Cert.Spec

theorem column_at (z : IVec S2x32x800 32) (b : Fin 2) (o : Fin 32) (k : Fin 800) (j : Fin 1) :
    shapeCast S2x32x800x1 z shapeCasts_S2x32x800_S2x32x800x1 (ix4 b o k j) = z (ix3 b o k) := by
  pointwise []

/-- A place within the last axis names the entry taken. -/
theorem gather_at (x : FVec Ideal S2x32x38416 .f32) (z : IVec S2x32x800x1 32) (b : Fin 2) (o : Fin 32) (k : Fin 800) (q : ℕ) (hq : q < 38416)
    (hz : z (ix4 b o k 0) = BitVec.ofNat 32 q) :
    Host.gather gather_S2x32x38416_S2x32x800x1_S2x32x800_n_2_01_01_2_3_111 x z (ix3 b o k) = x (ix3 b o ⟨q, hq⟩) := by
  unfold Host.gather
  refine congrArg x (funext fun a => Fin.ext ?_)
  match a with
  | ⟨0, _⟩ =>
    show 0 + b.val + 0 = b.val
    omega
  | ⟨1, _⟩ =>
    show 0 + o.val + 0 = o.val
    omega
  | ⟨2, _⟩ =>
    have hs : gather_S2x32x38416_S2x32x800x1_S2x32x800_n_2_01_01_2_3_111.siIdx (ix3 b o k) ⟨0, by decide⟩ = ix4 b o k 0 := by
      funext a
      match a with
      | ⟨0, _⟩ => rfl
      | ⟨1, _⟩ => rfl
      | ⟨2, _⟩ => rfl
      | ⟨3, _⟩ => rfl
    show min (z (gather_S2x32x38416_S2x32x800x1_S2x32x800_n_2_01_01_2_3_111.siIdx (ix3 b o k) ⟨0, by decide⟩)).toInt.toNat (38416 - 1) + 0 + 0 = q
    rw [hs, hz, word_toInt (by omega)]
    omega

theorem taken_at (x : FVec Ideal S2x32x38416 .f32) (y : IVec S2x32x800 32) (b : Fin 2) (o : Fin 32) (k : Fin 800) (q : ℕ) (hq : q < 38416)
    (hy : y (ix3 b o k) = BitVec.ofNat 32 q) : taken x y (ix3 b o k) = x (ix3 b o ⟨q, hq⟩) := by
  unfold taken
  refine gather_at x _ b o k q hq ((column_at _ b o k 0).trans ?_)
  pointwise [hy]
  have h : IntOp.cmpi CmpIPredicate.slt (BitVec.ofNat 32 q) 0#32 = 0#1 := by
    show BitVec.ofBool ((BitVec.ofNat 32 q).slt 0#32) = 0#1
    have h' : (BitVec.ofNat 32 q).slt 0#32 = false := by
      rw [BitVec.slt, show (0#32).toInt = 0 from rfl, word_toInt (by omega)]
      exact decide_eq_false (by omega)
    rw [h']
    rfl
  rw [h]
  rfl

theorem best_at (x : FVec Ideal S2x32x192x192 .f32) (X : ℕ → ℕ → EReal) (b : Fin 2) (o : Fin 32) (hx : ∀ i j, x (ix4 b o i j) = X i.val j.val)
    (h0 : ∀ i j, 0 ≤ X i j) (n : Fin 32) : refBest x (ix3 b o n) = BitVec.ofNat 32 (spot X n) :=
  refIdx_at _ (listed X) b o n (refPeaks_at x X b o hx h0)

theorem row_at (p : IVec S2x32x32 32) (b : Fin 2) (o n : Fin 32) (k : ℕ) (hk : k < 36864) (hp : p (ix3 b o n) = BitVec.ofNat 32 k) :
    refRow p (ix3 b o n) = BitVec.ofNat 32 (k / 192) := by
  unfold refRow
  pointwise [hp]
  exact Routing.divsi_word _ (b := 192) (by omega) (by omega) (by omega)

theorem col_at (p : IVec S2x32x32 32) (b : Fin 2) (o n : Fin 32) (k : ℕ) (hk : k < 36864) (hp : p (ix3 b o n) = BitVec.ofNat 32 k) :
    refCol p (ix3 b o n) = BitVec.ofNat 32 (k % 192) := by
  unfold refCol
  pointwise [hp]
  exact Routing.remsi_word _ (b := 192) (by omega) (by omega) (by omega)

theorem places_eq (p q : IVec S2x32x32 32) (b : Fin 2) (o n : Fin 32) (i j : Fin 5) (r c : ℕ) (hp : p (ix3 b o n) = BitVec.ofNat 32 r)
    (hq : q (ix3 b o n) = BitVec.ofNat 32 c) :
    refPlaces p q (ix3 b o ⟨n.val * 25 + i.val * 5 + j.val, by omega⟩) = BitVec.ofNat 32 ((r + i.val) * 196 + (c + j.val)) := by
  unfold refPlaces
  pointwise []
  rw [hp, hq, word_add, word_add]
  refine (congrArg (IntOp.addi · _) (word_mul _ 196)).trans (word_add _ _)

theorem wide_at (x : FVec Ideal S2x32x192x192 .f32) (X : ℕ → ℕ → EReal) (b : Fin 2) (o : Fin 32) (hx : ∀ i j, x (ix4 b o i j) = X i.val j.val)
    (r c : ℕ) (hr : r < 196) (hc : c < 196) : refWide x (ix3 b o ⟨r * 196 + c, by omega⟩) = ring X r c := by
  unfold refWide
  pointwise [hx]
  have e1 : (r * 196 + c) / 196 = r := by omega
  have e2 : (r * 196 + c) % 196 = c := by omega
  simp only [e1, e2]
  unfold ring
  by_cases h : (2 ≤ r ∧ r - 2 < 192) ∧ 2 ≤ c ∧ c - 2 < 192
  · rw [dif_pos h, if_pos (by omega)]
  · rw [dif_neg h, if_neg (by omega)]
    show (((0#32).toInt : ℝ) : EReal) = 0
    simp

theorem first_at (x : FVec Ideal S2x32x192x192 .f32) (X : ℕ → ℕ → EReal) (b : Fin 2) (o : Fin 32) (hx : ∀ i j, x (ix4 b o i j) = X i.val j.val)
    (h0 : ∀ i j, 0 ≤ X i j) (n : Fin 32) (i j : Fin 5) :
    refFirst x (ix5 b o n i j) = ring X (spot X n / 192 + i.val) (spot X n % 192 + j.val) := by
  have hb := best_at x X b o hx h0 n
  have hk := spot_lt X n
  generalize spot X n = k at hb hk
  have hp := places_eq (refRow (refBest x)) (refCol (refBest x)) b o n i j _ _ (row_at _ b o n k hk hb) (col_at _ b o n k hk hb)
  have hr : k / 192 + i.val < 196 := by omega
  have hc : k % 192 + j.val < 196 := by omega
  have ht := taken_at (refWide x) _ b o ⟨n.val * 25 + i.val * 5 + j.val, by omega⟩ _ (by omega) hp
  refine Eq.trans ?_ (ht.trans (wide_at x X b o hx _ _ hr hc))
  unfold refFirst refWins
  pointwise []

theorem second_at (x : FVec Ideal S2x32x192x192 .f32) (X : ℕ → ℕ → EReal) (b : Fin 2) (o : Fin 32) (hx : ∀ i j, x (ix4 b o i j) = X i.val j.val)
    (h0 : ∀ i j, 0 ≤ X i j) (n : Fin 32) (i : Fin 4) :
    refSecond x (ix4 b o n i) = corner (BitVec.ofNat 32 (spot X n / 192)) (BitVec.ofNat 32 (spot X n % 192)) i.val := by
  have hb := best_at x X b o hx h0 n
  have hk := spot_lt X n
  generalize spot X n = k at hb hk
  have hr := row_at _ b o n k hk hb
  have hc := col_at _ b o n k hk hb
  unfold refSecond
  generalize refRow (refBest x) = p at hr
  generalize refCol (refBest x) = q at hc
  unfold refPos clipped
  pointwise [hr, hc]
  rfl

end Cert.ReferenceIdeal.Value
end
-- ==== Proof.RefValue.lean ====
module

public import proofs.«01_k».proof.Proof.RefTerm

@[expose] public section

set_option maxRecDepth 16384

/-! # The reference's filtered map, entry by entry -/

noncomputable section
namespace Cert.ReferenceIdeal.Value
open Idealize.ShloMosaic Idealize.ShloMosaic.TcCoe
open Cert.ReferenceIdeal Cert.ReferenceIdeal.Gen Cert.Spec

/-- Two mixed entries agree when their parts do. -/
theorem mix_congr {a b a' b' : EReal} (h : a = a') (k : b = b') :
    Ideal.ofBits FTy.f32 1061158912#32 * a + Ideal.ofBits FTy.f32 1048576000#32 * b = mix a' b' := by
  subst h k
  rfl

theorem rows_at (x : FVec Ideal S2x64x96x96 .f32) (b : Fin 2) (c : Fin 64) (g : Fin 192) (k : Fin 96) (q : ℕ) (hq : min q 95 = k.val) :
    refRows x (ix4 b c g k) = vert (plane x b c) g.val q := by
  have hx : ∀ (i : Fin 96) (i' : ℕ), min i' 95 = i.val → x (ix4 b c i k) = plane x b c i' q := by
    intro i i' h
    exact plane_in x b c i' q i.val k.val i.isLt k.isLt h hq
  have hg := g.isLt
  pointwise [refRows]
  simp only [vert]
  by_cases h1 : g.val % 2 < 1
  · simp only [h1, dite_true, if_true]
    refine mix_congr (hx _ _ ?_) ?_
    · dsimp only; omega
    · by_cases h2 : g.val / 2 < 1
      · simp only [h2, dite_true]
        refine hx _ _ ?_
        dsimp only; omega
      · simp only [h2, dite_false]
        refine hx _ _ ?_
        dsimp only; omega
  · simp only [h1, dite_false, if_false]
    refine mix_congr (hx _ _ ?_) ?_
    · dsimp only; omega
    · by_cases h2 : g.val / 2 < 95
      · simp only [h2, dite_true]
        refine hx _ _ ?_
        dsimp only; omega
      · simp only [h2, dite_false]
        refine hx _ _ ?_
        dsimp only; omega

theorem cols_at (y : FVec Ideal S2x64x192x96 .f32) (f : ℕ → ℕ → EReal) (b : Fin 2) (c : Fin 64) (g w : Fin 192)
    (hx : ∀ (k : Fin 96) (q : ℕ), min q 95 = k.val → y (ix4 b c g k) = vert f g.val q) :
    refUp y (ix4 b c g w) = up f g.val w.val := by
  have hw := w.isLt
  pointwise [refUp]
  simp only [up]
  by_cases h1 : w.val % 2 < 1
  · simp only [h1, dite_true, if_true]
    refine mix_congr (hx _ _ ?_) ?_
    · dsimp only; omega
    · by_cases h2 : w.val / 2 < 1
      · simp only [h2, dite_true]
        refine hx _ _ ?_
        dsimp only; omega
      · simp only [h2, dite_false]
        refine hx _ _ ?_
        dsimp only; omega
  · simp only [h1, dite_false, if_false]
    refine mix_congr (hx _ _ ?_) ?_
    · dsimp only; omega
    · by_cases h2 : w.val / 2 < 95
      · simp only [h2, dite_true]
        refine hx _ _ ?_
        dsimp only; omega
      · simp only [h2, dite_false]
        refine hx _ _ ?_
        dsimp only; omega

theorem pad_at (y : FVec Ideal S2x64x192x192 .f32) (f : ℕ → ℕ → EReal) (b : Fin 2) (c : Fin 64) (i j : Fin 194)
    (hx : ∀ g w : Fin 192, y (ix4 b c g w) = up f g.val w.val) :
    refPad y (ix4 b c i j) = bordered f i.val j.val := by
  pointwise [refPad]
  unfold bordered
  by_cases h : (1 ≤ i.val ∧ i.val < 193) ∧ 1 ≤ j.val ∧ j.val < 193
  · rw [if_pos h, dif_pos ⟨⟨h.1.1, by omega⟩, h.2.1, by omega⟩, hx]
  · rw [if_neg h, dif_neg (fun h' => h ⟨⟨h'.1.1, by omega⟩, h'.2.1, by omega⟩)]
    simp [FloatOps.sitofp]

/-- The weights of the nine taps. -/
abbrev taps (w : FVec Ideal S64x64x3x3 .f32) (k : Fin 9) (o c : Fin 64) : EReal :=
  w (ix4 o c ⟨k.val / 3, by omega⟩ ⟨k.val % 3, by omega⟩)

theorem conv_at (y : FVec Ideal S2x64x194x194 .f32) (f : Fin 64 → ℕ → ℕ → EReal) (w : FVec Ideal S64x64x3x3 .f32) (bias : FVec Ideal S64 .f32)
    (b : Fin 2) (o : Fin 64) (g k : Fin 192) (hx : ∀ c (i j : Fin 194), y (ix4 b c i j) = bordered (f c) i.val j.val) :
    refConv y w bias (ix4 b o g k) = conv f (taps w) (fun c => bias (ix1 c)) o g.val k.val := by
  pointwise [refConv, hx]
  have e : ∀ a, a + g.val = g.val + a := fun a => Nat.add_comm _ _
  have e' : ∀ a, a + k.val = k.val + a := fun a => Nat.add_comm _ _
  simp only [conv, tap, e, e', mul_comm (bordered _ _ _)]
  refine congrArg (· + bias (ix1 o)) ?_
  have r : ∀ t0 t1 t2 t3 t4 t5 t6 t7 t8 : EReal,
      t0 + t1 + t2 + t3 + t4 + t5 + t6 + t7 + t8 = t0 + t1 + (t2 + t3) + (t4 + t5 + (t6 + t7)) + t8 := by
    intros
    ac_rfl
  exact r _ _ _ _ _ _ _ _ _

theorem mix_at (y : FVec Ideal S2x64x192x192 .f32) (w : FVec Ideal S32x64x1x1 .f32) (b : Fin 2) (o : Fin 32) (g k : Fin 192) :
    refMix y w (ix4 b o g k) = ∑ c, w (ix4 o c 0 0) * y (ix4 b c g k) := by
  pointwise [refMix]
  exact Finset.sum_congr rfl fun _ _ => mul_comm _ _

/-- The reference's filtered map. -/
theorem feature_at (a0 : FVec Ideal S2x64x96x96 .f32) (a1 : FVec Ideal S64x64x3x3 .f32) (a2 a3 a4 a5 a6 : FVec Ideal S64 .f32)
    (a7 : FVec Ideal S32x64x1x1 .f32) (a8 a9 a10 a11 : FVec Ideal S32 .f32) (b : Fin 2) (o : Fin 32) (g k : Fin 192) :
    refFeature a0 a1 a2 a3 a4 a5 a6 a7 a8 a9 a10 a11 (ix4 b o g k) =
      feature (plane a0 b) (taps a1) (fun c => a2 (ix1 c)) (fun c => a5 (ix1 c)) (fun c => a6 (ix1 c)) (fun c => a3 (ix1 c)) (fun c => a4 (ix1 c))
        (fun o c => a7 (ix4 o c 0 0)) (fun c => a10 (ix1 c)) (fun c => a11 (ix1 c)) (fun c => a8 (ix1 c)) (fun c => a9 (ix1 c)) o g.val k.val := by
  have hx : ∀ (o : Fin 64) (g k : Fin 192), refConv (refPad (refUp (refRows a0))) a1 a2 (ix4 b o g k) =
      conv (plane a0 b) (taps a1) (fun c => a2 (ix1 c)) o g.val k.val := fun o g k =>
    conv_at _ _ a1 a2 b o g k fun c i j => pad_at _ _ b c i j fun g w => cols_at _ _ b c g w fun k q h => rows_at a0 b c g k q h
  pointwise [refFeature, refMap, mix_at, refAct, hx]
  simp only [feature, Spec.norm]
  rfl

end Cert.ReferenceIdeal.Value
end
-- ==== Proof.RefLine.lean ====
module

public import proofs.«01_k».proof.Proof.RefTerm
public import Idealize.ShloMosaic.Lib.Pipeline.ValueKit
public import Idealize.ShloMosaic.Lib.StableHlo.RunRead

@[expose] public section

set_option maxRecDepth 16384

/-! # The reference as a line of operations, cut into stages -/

noncomputable section
namespace Cert.ReferenceIdeal.Value
open Idealize.ShloMosaic Idealize.SL.Sem
open Cert.ReferenceIdeal

/-- A line of operations with the fact that it is the reference. -/
def lineFrom {ops : List (HloOp τ sig (Elt Ideal))} (h : ∀ d, StableHlo.IsSeq (nD := nD) (main (F := Ideal) d) ops) :
    {ops : List (HloOp τ sig (Elt Ideal)) // ∀ d, StableHlo.IsSeq (nD := nD) (main (F := Ideal) d) ops} := ⟨ops, h⟩

/-- The reference's operations, in order. -/
def lineOf : {ops : List (HloOp τ sig (Elt Ideal)) // ∀ d, StableHlo.IsSeq (nD := nD) (main (F := Ideal) d) ops} :=
  by apply lineFrom; hlo_seq

/-- The arguments' buffers. -/
abbrev args : List (Ref sig .tc) :=
  [main_arg0, main_arg1, main_arg2, main_arg3, main_arg4, main_arg5, main_arg6, main_arg7, main_arg8, main_arg9, main_arg10, main_arg11]

theorem not_args (op : HloOp τ sig (Elt Ideal)) (y : Ref sig .tc) (hw : op.writes = {Proc.devRef .tc y}) (hy : y ∉ args) :
    ∀ b ∈ args, Proc.devRef .tc b ∉ op.writes := fun b hb h => by
  rw [hw, Finset.mem_singleton] at h
  exact StableHlo.devRef_ne_of_ne (fun e : b = y => hy (e ▸ hb)) h

/-- No operation writes an argument. -/
theorem kept : ∀ op ∈ lineOf.1, ∀ b ∈ args, Proc.devRef .tc b ∉ op.writes := by
  intro _ h; (repeat (cases h with | head => exact not_args _ _ rfl (by decide) | tail _ h => ?_)); exact nomatch h

theorem fresh_line : ∀ op ∈ lineOf.1, op.fresh = ∅ := by
  intro _ h; (repeat (cases h with | head => rfl | tail _ h => ?_)); exact nomatch h

theorem sub_line : lineOf.1.Forall fun op => op.bufs ⊆ StableHlo.tcRefs τ sig := by
  unfold lineOf lineFrom
  simp

/-- A stretch of the line. -/
def stage (a k : ℕ) : List (HloOp τ sig (Elt Ideal)) := (lineOf.1.drop a).take k

theorem stage_kept (a k : ℕ) (V : Valuation τ sig (Elt Ideal)) (b : Ref sig .tc) (hb : b ∈ args) :
    StableHlo.after (stage a k) V (Proc.devRef .tc b) = V (Proc.devRef .tc b) :=
  StableHlo.after_of_forall_not_mem _ _ fun op h => kept op (List.mem_of_mem_drop (List.mem_of_mem_take h)) b hb

/-- A line is its stretches in order. -/
theorem after_cut (l : List (HloOp τ sig (Elt Ideal))) (k : ℕ) (V : Valuation τ sig (Elt Ideal)) :
    StableHlo.after l V = StableHlo.after (l.drop k) (StableHlo.after (l.take k) V) := by
  induction l generalizing k V with
  | nil => simp
  | cons op l ih =>
    cases k with
    | zero => rfl
    | succ k => exact ih k (op.result V)

theorem after_stage (a k : ℕ) (V : Valuation τ sig (Elt Ideal)) :
    StableHlo.after (lineOf.1.drop a) V = StableHlo.after (lineOf.1.drop (a + k)) (StableHlo.after (stage a k) V) := by
  rw [after_cut _ k, List.drop_drop]
  rfl

/-! ## What each stretch computes -/

/-- The rows doubled. -/
theorem rows_line (V : Valuation τ sig (Elt Ideal)) :
    StableHlo.after (stage 0 24) V (Proc.devRef .tc main_v19) = refRows (V (Proc.devRef .tc main_arg0)) := by
  after_reads_simp
  rfl

/-- The columns doubled. -/
theorem cols_line (V : Valuation τ sig (Elt Ideal)) :
    StableHlo.after (stage 24 24) V (Proc.devRef .tc main_v39) = refUp (V (Proc.devRef .tc main_v19)) := by
  after_reads_simp
  rfl

/-- The border. -/
theorem pad_line (V : Valuation τ sig (Elt Ideal)) :
    StableHlo.after (stage 48 3) V (Proc.devRef .tc main_v40) = refPad (V (Proc.devRef .tc main_v39)) := by
  after_reads_simp
  rfl

/-- The nine taps and the bias. -/
theorem conv_line (V : Valuation τ sig (Elt Ideal)) :
    StableHlo.after (stage 51 59) V (Proc.devRef .tc main_v98) = refConv (V (Proc.devRef .tc main_v40)) (V (Proc.devRef .tc main_arg1)) (V (Proc.devRef .tc main_arg2)) := by
  after_reads_simp
  rfl

/-- The first normalization. -/
theorem act_line (V : Valuation τ sig (Elt Ideal)) :
    StableHlo.after (stage 110 19) V (Proc.devRef .tc main_v115) = refAct (V (Proc.devRef .tc main_v98)) (V (Proc.devRef .tc main_arg3)) (V (Proc.devRef .tc main_arg4)) (V (Proc.devRef .tc main_arg5)) (V (Proc.devRef .tc main_arg6)) := by
  after_reads_simp
  rfl

/-- The channels mixed. -/
theorem mix_line (V : Valuation τ sig (Elt Ideal)) :
    StableHlo.after (stage 129 3) V (Proc.devRef .tc main_v118) = refMix (V (Proc.devRef .tc main_v115)) (V (Proc.devRef .tc main_arg7)) := by
  after_reads_simp
  rfl

/-- The filtered map. -/
theorem map_line (V : Valuation τ sig (Elt Ideal)) :
    StableHlo.after (stage 132 23) V (Proc.devRef .tc main_v136) = refMap (V (Proc.devRef .tc main_v118)) (V (Proc.devRef .tc main_arg8)) (V (Proc.devRef .tc main_arg9)) (V (Proc.devRef .tc main_arg10)) (V (Proc.devRef .tc main_arg11)) := by
  after_reads_simp
  rfl

/-- The peaks. -/
theorem peaks_line (V : Valuation τ sig (Elt Ideal)) :
    StableHlo.after (stage 155 10) V (Proc.devRef .tc main_v144) = refPeaks (refSum (V (Proc.devRef .tc main_v136))) (refMax (refSum (V (Proc.devRef .tc main_v136)))) := by
  after_reads_simp
  rfl

/-- The map is kept. -/
theorem peaks_keep (V : Valuation τ sig (Elt Ideal)) :
    StableHlo.after (stage 155 10) V (Proc.devRef .tc main_v136) = (V (Proc.devRef .tc main_v136)) := by
  after_reads_simp

/-- The rows of the greatest. -/
theorem row_line (V : Valuation τ sig (Elt Ideal)) :
    StableHlo.after (stage 165 8) V (Proc.devRef .tc main_v146) = refRow (refIdx (V (Proc.devRef .tc main_v144))) := by
  after_reads_simp
  rfl

/-- The columns of the greatest. -/
theorem col_line (V : Valuation τ sig (Elt Ideal)) :
    StableHlo.after (stage 165 8) V (Proc.devRef .tc main_v148) = refCol (refIdx (V (Proc.devRef .tc main_v144))) := by
  after_reads_simp
  rfl

/-- The map is kept. -/
theorem best_keep (V : Valuation τ sig (Elt Ideal)) :
    StableHlo.after (stage 165 8) V (Proc.devRef .tc main_v136) = (V (Proc.devRef .tc main_v136)) := by
  after_reads_simp

/-- The windows. -/
theorem wins_line (V : Valuation τ sig (Elt Ideal)) :
    StableHlo.after (stage 173 35) V (Proc.devRef .tc main_v172) = refWins (refWide (V (Proc.devRef .tc main_v136))) (refPlaces (V (Proc.devRef .tc main_v146)) (V (Proc.devRef .tc main_v148))) := by
  after_reads_simp
  rfl

/-- The rows are kept. -/
theorem wins_keep_row (V : Valuation τ sig (Elt Ideal)) :
    StableHlo.after (stage 173 35) V (Proc.devRef .tc main_v146) = (V (Proc.devRef .tc main_v146)) := by
  after_reads_simp

/-- The columns are kept. -/
theorem wins_keep_col (V : Valuation τ sig (Elt Ideal)) :
    StableHlo.after (stage 173 35) V (Proc.devRef .tc main_v148) = (V (Proc.devRef .tc main_v148)) := by
  after_reads_simp

/-- The corners. -/
theorem pos_line (V : Valuation τ sig (Elt Ideal)) :
    StableHlo.after (stage 208 49) V (Proc.devRef .tc main_v189) = refPos (V (Proc.devRef .tc main_v146)) (V (Proc.devRef .tc main_v148)) := by
  after_reads_simp
  rfl

/-- The windows are kept. -/
theorem pos_keep (V : Valuation τ sig (Elt Ideal)) :
    StableHlo.after (stage 208 49) V (Proc.devRef .tc main_v172) = (V (Proc.devRef .tc main_v172)) := by
  after_reads_simp

end Cert.ReferenceIdeal.Value
end
-- ==== Proof.RefEnded.lean ====
module

public import proofs.«01_k».proof.Proof.RefLine
public import Idealize.ShloMosaic.Lib.Pipeline.ValueKit

@[expose] public section

set_option maxRecDepth 16384

/-! # The reference's run, with its results -/

noncomputable section
namespace Cert.ReferenceIdeal.Value
open Idealize.ShloMosaic Idealize.SL.Sem
open Cert.ReferenceIdeal

/-- The filtered map a state's arguments give. -/
def mapOf (m : (ℓ : Loc nD τ sig) → Buf (Elt Ideal) ℓ) (c : Dev nD) : FVec Ideal S2x32x192x192 .f32 :=
  refFeature (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

/-- The line's two results and its arguments, from any contents. -/
theorem line_ends (V : Valuation τ sig (Elt Ideal)) (x : FVec Ideal S2x32x192x192 .f32)
    (hx : x = refFeature (V (Proc.devRef .tc main_arg0)) (V (Proc.devRef .tc main_arg1)) (V (Proc.devRef .tc main_arg2)) (V (Proc.devRef .tc main_arg3))
      (V (Proc.devRef .tc main_arg4)) (V (Proc.devRef .tc main_arg5)) (V (Proc.devRef .tc main_arg6)) (V (Proc.devRef .tc main_arg7))
      (V (Proc.devRef .tc main_arg8)) (V (Proc.devRef .tc main_arg9)) (V (Proc.devRef .tc main_arg10)) (V (Proc.devRef .tc main_arg11))) :
    StableHlo.after lineOf.1 V (Proc.devRef .tc main_v172) = refFirst x
      ∧ StableHlo.after lineOf.1 V (Proc.devRef .tc main_v189) = refSecond x := by
  have e : StableHlo.after lineOf.1 V = StableHlo.after (stage 208 49) (StableHlo.after (stage 173 35) (StableHlo.after (stage 165 8) (StableHlo.after (stage 155 10)
      (StableHlo.after (stage 132 23) (StableHlo.after (stage 129 3) (StableHlo.after (stage 110 19) (StableHlo.after (stage 51 59) (StableHlo.after (stage 48 3)
      (StableHlo.after (stage 24 24) (StableHlo.after (stage 0 24) V)))))))))) := by
    rw [show StableHlo.after lineOf.1 V = StableHlo.after (lineOf.1.drop 0) V from rfl, after_stage 0 24, after_stage 24 24, after_stage 48 3,
      after_stage 51 59, after_stage 110 19, after_stage 129 3, after_stage 132 23, after_stage 155 10, after_stage 165 8, after_stage 173 35,
      after_stage 208 49]
    rfl
  rw [e, pos_keep, wins_line, pos_line, wins_keep_row, wins_keep_col, row_line, col_line, best_keep, peaks_keep, peaks_line, map_line, mix_line,
    act_line, conv_line, pad_line, cols_line, rows_line]
  subst hx
  have k := fun (b : Ref sig .tc) (hb : b ∈ args) (a n : ℕ) (W : Valuation τ sig (Elt Ideal)) => stage_kept a n W b hb
  repeat rw [k main_arg0 (by decide)]
  repeat rw [k main_arg1 (by decide)]
  repeat rw [k main_arg2 (by decide)]
  repeat rw [k main_arg3 (by decide)]
  repeat rw [k main_arg4 (by decide)]
  repeat rw [k main_arg5 (by decide)]
  repeat rw [k main_arg6 (by decide)]
  repeat rw [k main_arg7 (by decide)]
  repeat rw [k main_arg8 (by decide)]
  repeat rw [k main_arg9 (by decide)]
  repeat rw [k main_arg10 (by decide)]
  repeat rw [k main_arg11 (by decide)]
  exact ⟨rfl, rfl⟩

theorem run_ends (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v172) = refFirst (mapOf m c)
      ∧ r.2.mem ((c.tc : Thread nD τ).loc main_v189) = refSecond (mapOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine θ_run_mono (StableHlo.run_hlo _ _ lineOf.2 (by decide) (by decide) sub_line fresh_line _ _) ?_
  intro r h c
  have hl := line_ends (StableHlo.launchContents m c) (mapOf m c) rfl
  have hk : ∀ b ∈ args, r.2.mem ((c.tc : Thread nD τ).loc b) = m ((c.tc : Thread nD τ).loc b) := fun b hb =>
    (h c b).trans (StableHlo.after_of_forall_not_mem _ _ fun op ho => kept op ho b hb)
  refine ⟨(h c _).trans hl.1, (h c _).trans hl.2, ?_⟩
  repeat' (first | exact hk _ (by decide) | refine ⟨hk _ (by decide), ?_⟩)

end Cert.ReferenceIdeal.Value
end
-- ==== Proof.Same.lean ====
module

public import proofs.«01_k».proof.Proof.Final
public import proofs.«01_k».proof.Proof.RefOut
public import proofs.«01_k».proof.Proof.RefValue
public import proofs.«01_k».proof.Proof.RefEnded

@[expose] public section

set_option maxRecDepth 16384

/-! # The two programs' results are the same -/

noncomputable section
namespace Cert.Proof
open Idealize.ShloMosaic Idealize.ShloMosaic.TcCoe
open Cert.Spec

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

open Cert.ReferenceIdeal in
/-- The memories agree on the arguments. -/
abbrev Agree (c : Dev nD) : Prop :=
  m' ((c.tc : Thread nD τ).loc main_arg0) = m ((c.tc : Thread Cert.KernelIdeal.nD Cert.KernelIdeal.τ).loc Cert.KernelIdeal.main_arg0)
  ∧ m' ((c.tc : Thread nD τ).loc main_arg1) = m ((c.tc : Thread Cert.KernelIdeal.nD Cert.KernelIdeal.τ).loc Cert.KernelIdeal.main_arg1)
  ∧ m' ((c.tc : Thread nD τ).loc main_arg2) = m ((c.tc : Thread Cert.KernelIdeal.nD Cert.KernelIdeal.τ).loc Cert.KernelIdeal.main_arg2)
  ∧ m' ((c.tc : Thread nD τ).loc main_arg3) = m ((c.tc : Thread Cert.KernelIdeal.nD Cert.KernelIdeal.τ).loc Cert.KernelIdeal.main_arg3)
  ∧ m' ((c.tc : Thread nD τ).loc main_arg4) = m ((c.tc : Thread Cert.KernelIdeal.nD Cert.KernelIdeal.τ).loc Cert.KernelIdeal.main_arg4)
  ∧ m' ((c.tc : Thread nD τ).loc main_arg5) = m ((c.tc : Thread Cert.KernelIdeal.nD Cert.KernelIdeal.τ).loc Cert.KernelIdeal.main_arg5)
  ∧ m' ((c.tc : Thread nD τ).loc main_arg6) = m ((c.tc : Thread Cert.KernelIdeal.nD Cert.KernelIdeal.τ).loc Cert.KernelIdeal.main_arg6)
  ∧ m' ((c.tc : Thread nD τ).loc main_arg7) = m ((c.tc : Thread Cert.KernelIdeal.nD Cert.KernelIdeal.τ).loc Cert.KernelIdeal.main_arg7)
  ∧ m' ((c.tc : Thread nD τ).loc main_arg8) = m ((c.tc : Thread Cert.KernelIdeal.nD Cert.KernelIdeal.τ).loc Cert.KernelIdeal.main_arg8)
  ∧ m' ((c.tc : Thread nD τ).loc main_arg9) = m ((c.tc : Thread Cert.KernelIdeal.nD Cert.KernelIdeal.τ).loc Cert.KernelIdeal.main_arg9)
  ∧ m' ((c.tc : Thread nD τ).loc main_arg10) = m ((c.tc : Thread Cert.KernelIdeal.nD Cert.KernelIdeal.τ).loc Cert.KernelIdeal.main_arg10)
  ∧ m' ((c.tc : Thread nD τ).loc main_arg11) = m ((c.tc : Thread Cert.KernelIdeal.nD Cert.KernelIdeal.τ).loc Cert.KernelIdeal.main_arg11)

variable (c : Dev Cert.KernelIdeal.nD) (h : Agree m m' c)

include h in
/-- The reference's map is the kernel's. -/
theorem map_same (b : Fin 2) (o : Fin 32) (i j : Fin 192) :
    Cert.ReferenceIdeal.Value.mapOf m' c (ix4 b o i j) = Cert.KernelIdeal.Run.mapAt m c b o i.val j.val := by
  obtain ⟨h0, h1, h2, h3, h4, h5, h6, h7, h8, h9, h10, h11⟩ := h
  unfold Cert.ReferenceIdeal.Value.mapOf
  rw [h0, h1, h2, h3, h4, h5, h6, h7, h8, h9, h10, h11]
  exact Cert.ReferenceIdeal.Value.feature_at _ _ _ _ _ _ _ _ _ _ _ _ b o i j

theorem map_nonneg (b : Fin 2) (o : Fin 32) (i j : ℕ) : 0 ≤ Cert.KernelIdeal.Run.mapAt m c b o i j := feature_nonneg ..

include h in
theorem first_same : Cert.KernelIdeal.Run.V7 m c (Proc.devRef .tc Cert.KernelIdeal.main_v18) = Cert.ReferenceIdeal.Value.refFirst (Cert.ReferenceIdeal.Value.mapOf m' c) := by
  refine funext fun (j : Cert.ReferenceIdeal.S2x32x32x5x5.Idx) => ?_
  have e : j = ix5 (j 0) (j 1) (j 2) (j 3) (j 4) := by
    funext a
    match a with
    | ⟨0, _⟩ => rfl
    | ⟨1, _⟩ => rfl
    | ⟨2, _⟩ => rfl
    | ⟨3, _⟩ => rfl
    | ⟨4, _⟩ => rfl
  rw [e]
  exact (Cert.KernelIdeal.Run.first_read m c (j 0) (j 1) (j 2) (j 3) (j 4)).trans
    (Cert.ReferenceIdeal.Value.first_at _ _ (j 0) (j 1) (map_same m m' c h (j 0) (j 1)) (map_nonneg m c _ _) (j 2) (j 3) (j 4)).symm

include h in
theorem second_same : Cert.KernelIdeal.Run.V7 m c (Proc.devRef .tc Cert.KernelIdeal.main_v19) = Cert.ReferenceIdeal.Value.refSecond (Cert.ReferenceIdeal.Value.mapOf m' c) := by
  refine funext fun (j : Cert.ReferenceIdeal.S2x32x32x4.Idx) => ?_
  have e : j = ix4 (j 0) (j 1) (j 2) (j 3) := by
    funext a
    match a with
    | ⟨0, _⟩ => rfl
    | ⟨1, _⟩ => rfl
    | ⟨2, _⟩ => rfl
    | ⟨3, _⟩ => rfl
  rw [e]
  exact (Cert.KernelIdeal.Run.second_read m c (j 0) (j 1) (j 2) (j 3)).trans
    (Cert.ReferenceIdeal.Value.second_at _ _ (j 0) (j 1) (map_same m m' c h (j 0) (j 1)) (map_nonneg m c _ _) (j 2) (j 3)).symm

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Ended
public import proofs.«01_k».proof.Proof.BitsEnded
public import proofs.«01_k».proof.Proof.RefFrame
public import proofs.«01_k».proof.Proof.Same
public import Idealize.ShloMosaic.Adequacy
public import Idealize.ShloMosaic.Init

@[expose] public section

noncomputable section

namespace Cert.Proof

open Idealize.ShloMosaic Idealize.SL.Sem Cert.Kernel

theorem frame_kernel : Cert.quiescent_Kernel (hKernel := Cert.Kernel.Gen.facts) := fun m g _ =>
  (θ_run _ _ _).mono (fun r hr => ⟨fun c => by
    refine ⟨?_, ?_, ?_, ?_, ?_, ?_, ?_, ?_, ?_, ?_, ?_, ?_⟩ <;> exact (hr.1 c).2 _ (by decide), hr.2⟩) (Cert.Kernel.Run.run_ends (F := Bits) m g)

theorem frame_ideal : Cert.quiescent_KernelIdeal (hKernelIdeal := Cert.KernelIdeal.Gen.facts) := fun m g _ =>
  (θ_run _ _ _).mono (fun r hr => ⟨fun c => by
    refine ⟨?_, ?_, ?_, ?_, ?_, ?_, ?_, ?_, ?_, ?_, ?_, ?_⟩ <;> exact (hr.1 c).2 _ (by decide), hr.2⟩) (Cert.KernelIdeal.Run.run_ends (F := Ideal) m g)

theorem algebraic : Cert.algebraic_KernelIdeal_ReferenceIdeal (hKernelIdeal := Cert.KernelIdeal.Gen.facts) (hReferenceIdeal := Cert.ReferenceIdeal.Gen.facts) :=
  fun m g m' g' _ hagree =>
    ⟨fun c => Cert.KernelIdeal.Run.V7 m c (Proc.devRef .tc Cert.KernelIdeal.main_v18), fun c => Cert.KernelIdeal.Run.V7 m c (Proc.devRef .tc Cert.KernelIdeal.main_v19),
      (θ_run _ _ _).mono (fun r hr c => by
        refine ⟨(hr.1 c).1.1, (hr.1 c).1.2, ?_, ?_, ?_, ?_, ?_, ?_, ?_, ?_, ?_, ?_, ?_, ?_⟩ <;> exact (hr.1 c).2 _ (by decide))
        (Cert.KernelIdeal.Run.run_ends (F := Ideal) m g),
      (θ_run _ _ _).mono (fun r hr c => ⟨(hr c).1.trans (first_same m m' c (hagree c)).symm, (hr c).2.1.trans (second_same m m' c (hagree c)).symm, (hr c).2.2⟩)
        (Cert.ReferenceIdeal.Value.run_ends m' g')⟩

theorem claim : Cert.Claim := ⟨Cert.Kernel.Gen.facts, Cert.KernelIdeal.Gen.facts, Cert.ReferenceIdeal.Gen.facts,
  frame_kernel, frame_ideal, frame_reference, trivial, algebraic⟩

end Cert.Proof

end
